-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S100000x128 : Shape := ⟨2, ![100000, 128]⟩
abbrev S100000x2 : Shape := ⟨2, ![100000, 2]⟩
abbrev S_ : Shape := ⟨0, ![]⟩

class Facts : Prop where
  bcast_S_S100000x2 : S_.BroadcastsInDim S100000x2 (![] : Fin 0 → Fin S100000x2.rank)

variable [Facts]

def fn {F : FTy → Type} [FloatOps F] (main_arg0 : FVec F S100000x128 .f32) (main_arg1 : IVec S100000x2 32) : IVec S100000x2 1 :=
  let main_c : IVec S_ 32 := constantI S_ 32 0#32
  let main_v0 : IVec S100000x2 32 := broadcastInDim S100000x2 ![] bcast_S_S100000x2 main_c
  let main_v1 : IVec S100000x2 1 := cmpi .sge main_arg1 main_v0
  let main_c_0 : IVec S_ 32 := constantI S_ 32 100000#32
  let main_v2 : IVec S100000x2 32 := broadcastInDim S100000x2 ![] bcast_S_S100000x2 main_c_0
  let main_v3 : IVec S100000x2 1 := cmpi .slt main_arg1 main_v2
  let main_v4 : IVec S100000x2 1 := andi main_v1 main_v3
  main_v4
-- ==== Kernel.lean ====
abbrev S100000x128 : Shape := ⟨2, ![100000, 128]⟩
abbrev S100000x2 : Shape := ⟨2, ![100000, 2]⟩
abbrev S2500x80 : Shape := ⟨2, ![2500, 80]⟩
abbrev S200000x128 : Shape := ⟨2, ![200000, 128]⟩
abbrev S80 : Shape := ⟨1, ![80]⟩
abbrev S80x128 : Shape := ⟨2, ![80, 128]⟩
abbrev S400x128 : Shape := ⟨2, ![400, 128]⟩
abbrev S_ : Shape := ⟨0, ![]⟩
abbrev S1x80 : Shape := ⟨2, ![1, 80]⟩
abbrev S1x16 : Shape := ⟨2, ![1, 16]⟩
abbrev S16 : Shape := ⟨1, ![16]⟩
abbrev S40x128 : Shape := ⟨2, ![40, 128]⟩

abbrev nBuf : Table → Nat
  | .hbm => 4
  | .local .scVector .vmem => 3
  | _ => 0

abbrev bufTy : (tb : Table) → Fin (nBuf tb) → BufTy
  | .hbm, ⟨0, _⟩ => ⟨S100000x128, .f32⟩
  | .hbm, ⟨1, _⟩ => ⟨S100000x2, .i32⟩
  | .hbm, ⟨2, _⟩ => ⟨S2500x80, .i32⟩
  | .hbm, ⟨3, _⟩ => ⟨S200000x128, .f32⟩
  | .local .scVector .vmem, ⟨0, _⟩ => ⟨S80, .i32⟩
  | .local .scVector .vmem, ⟨1, _⟩ => ⟨S80x128, .f32⟩
  | .local .scVector .vmem, ⟨2, _⟩ => ⟨S400x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 1 := Scalar.cmpi .slt v1 c26_i32
  let c8_i32 : BitVec 32 := 8#32
  let c7_i32 : BitVec 32 := 7#32
  let v3 : BitVec 32 := Scalar.select v2 c8_i32 c7_i32
  let v4 : BitVec 32 := Scalar.subi v3 c0_i32_0
  let c1_i32 : BitVec 32 := 1#32
  let v6 : BitVec 32 := Scalar.divsi v4 c1_i32
  let v7 : BitVec 32 := Scalar.muli v6 c1_i32
  let v8 : BitVec 32 := Scalar.addi c0_i32_0 v7
  let c1_i32_1 : BitVec 32 := 1#32
  ⟨c0_i32_0, v8, c1_i32_1⟩
def k0_off1 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32_1 : BitVec 32 := 1#32
  let arg9 : BitVec 32 := Scf.iv c0_i32_0 c1_i32_1 k0_t1
  let v16 : BitVec 32 := Scalar.muli c32_i32 arg9
  let v17 : BitVec 32 := Scalar.addi v1 v16
  let c400_i32 : BitVec 32 := 400#32
  let v18 : BitVec 32 := Scalar.muli v17 c400_i32
  let c0_i32_8_r0 : BitVec 32 := 0#32
  ![v18.toNat, 0]
def k0_off2 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32_1 : BitVec 32 := 1#32
  let arg9 : BitVec 32 := Scf.iv c0_i32_0 c1_i32_1 k0_t1
  let v16 : BitVec 32 := Scalar.muli c32_i32 arg9
  let v17 : BitVec 32 := Scalar.addi v1 v16
  let c400_i32 : BitVec 32 := 400#32
  let v18 : BitVec 32 := Scalar.muli v17 c400_i32
  let c0_i32_8_r1 : BitVec 32 := 0#32
  ![v18.toNat, 0]
@[reducible] def k0_t2_loop (i : grid0.Coords) : Scf.Loop 32 :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 1 := Scalar.cmpi .slt v1 c26_i32
  let c8_i32 : BitVec 32 := 8#32
  let c7_i32 : BitVec 32 := 7#32
  let v3 : BitVec 32 := Scalar.select v2 c8_i32 c7_i32
  let v4 : BitVec 32 := Scalar.subi v3 c0_i32_0
  let c1_i32 : BitVec 32 := 1#32
  let v6 : BitVec 32 := Scalar.divsi v4 c1_i32
  let v7 : BitVec 32 := Scalar.muli v6 c1_i32
  let v8 : BitVec 32 := Scalar.addi c0_i32_0 v7
  let v5 : BitVec 32 := Scalar.addi c0_i32_0 v4
  let c1_i32_2 : BitVec 32 := 1#32
  ⟨v8, v5, c1_i32_2⟩
def k0_off3 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c26_i32 : BitVec 32 := 26#32
  let v2 : BitVec 1 := Scalar.cmpi .slt v1 c26_i32
  let c8_i32 : BitVec 32 := 8#32
  let c7_i32 : BitVec 32 := 7#32
  let v3 : BitVec 32 := Scalar.select v2 c8_i32 c7_i32
  let v4 : BitVec 32 := Scalar.subi v3 c0_i32_0
  let c1_i32 : BitVec 32 := 1#32
  let v6 : BitVec 32 := Scalar.divsi v4 c1_i32
  let v7 : BitVec 32 := Scalar.muli v6 c1_i32
  let v8 : BitVec 32 := Scalar.addi c0_i32_0 v7
  let c1_i32_2 : BitVec 32 := 1#32
  let arg9 : BitVec 32 := Scf.iv v8 c1_i32_2 k0_t2
  let v16 : BitVec 32 := Scalar.muli c32_i32 arg9
  let v17 : BitVec 32 := Scalar.addi v1 v16
  let c400_i32 : BitVec 32 := 400#32
  let v18 : BitVec 32 := Scalar.muli v17 c400_i32
  let c0_i32_8_r2 : BitVec 32 := 0#32
  ![v18.toNat, 0]
def k0_off4 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c26_i32 : BitVec 32 := 26#32
  let v2 : BitVec 1 := Scalar.cmpi .slt v1 c26_i32
  let c8_i32 : BitVec 32 := 8#32
  let c7_i32 : BitVec 32 := 7#32
  let v3 : BitVec 32 := Scalar.select v2 c8_i32 c7_i32
  let v4 : BitVec 32 := Scalar.subi v3 c0_i32_0
  let c1_i32 : BitVec 32 := 1#32
  let v6 : BitVec 32 := Scalar.divsi v4 c1_i32
  let v7 : BitVec 32 := Scalar.muli v6 c1_i32
  let v8 : BitVec 32 := Scalar.addi c0_i32_0 v7
  let c1_i32_2 : BitVec 32 := 1#32
  let arg9 : BitVec 32 := Scf.iv v8 c1_i32_2 k0_t2
  let v16 : BitVec 32 := Scalar.muli c32_i32 arg9
  let v17 : BitVec 32 := Scalar.addi v1 v16
  let c400_i32 : BitVec 32 := 400#32
  let v18 : BitVec 32 := Scalar.muli v17 c400_i32
  let c0_i32_8_r3 : BitVec 32 := 0#32
  ![v18.toNat, 0]
@[reducible] def k0_t3_loop (i : grid0.Coords) : Scf.Loop 32 :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v9 : BitVec 1 := Scalar.cmpi .slt v1 c4_i32
  let c79_i32 : BitVec 32 := 79#32
  let c78_i32 : BitVec 32 := 78#32
  let v10 : BitVec 32 := Scalar.select v9 c79_i32 c78_i32
  let v11 : BitVec 32 := Scalar.subi v10 c0_i32_4
  let c1_i32_5 : BitVec 32 := 1#32
  let v13 : BitVec 32 := Scalar.divsi v11 c1_i32_5
  let v14 : BitVec 32 := Scalar.muli v13 c1_i32_5
  let v15 : BitVec 32 := Scalar.addi c0_i32_4 v14
  let c1_i32_6 : BitVec 32 := 1#32
  ⟨c0_i32_4, v15, c1_i32_6⟩
def k0_off5 (i : grid0.Coords) (k0_t3 : Fin (k0_t3_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_6 : BitVec 32 := 1#32
  let arg9 : BitVec 32 := Scf.iv c0_i32_4 c1_i32_6 k0_t3
  let v16 : BitVec 32 := Scalar.muli c32_i32 arg9
  let v17 : BitVec 32 := Scalar.addi v1 v16
  let c0_i32_17_r4 : BitVec 32 := 0#32
  ![v17.toNat, 0]
@[reducible] def k0_t4_loop : Scf.Loop 32 :=
  let c0_i32_13 : BitVec 32 := 0#32
  let c40_i32_14 : BitVec 32 := 40#32
  let v21 : BitVec 32 := Scalar.addi c0_i32_13 c40_i32_14
  let c1_i32_15 : BitVec 32 := 1#32
  ⟨c0_i32_13, v21, c1_i32_15⟩
def k0_off6 (k0_t4 : Fin k0_t4_loop.trips) : Fin 2 → Nat :=
  let c2_i32_17 : BitVec 32 := 2#32
  let c0_i32_13 : BitVec 32 := 0#32
  let c1_i32_15 : BitVec 32 := 1#32
  let arg10 : BitVec 32 := Scf.iv c0_i32_13 c1_i32_15 k0_t4
  let v23 : BitVec 32 := Scalar.muli c2_i32_17 arg10
  let v24 : Index := Scalar.indexCast v23
  let c0 : Index := 0#32
  ![v24.toNat, 0]
def k0_off7 (k0_t4 : Fin k0_t4_loop.trips) : Fin 2 → Nat :=
  let c2_i32_18 : BitVec 32 := 2#32
  let c0_i32_13 : BitVec 32 := 0#32
  let c1_i32_15 : BitVec 32 := 1#32
  let arg10 : BitVec 32 := Scf.iv c0_i32_13 c1_i32_15 k0_t4
  let v27 : BitVec 32 := Scalar.muli c2_i32_18 arg10
  let c1_i32_19 : BitVec 32 := 1#32
  let v28 : BitVec 32 := Scalar.addi v27 c1_i32_19
  let v29 : Index := Scalar.indexCast v28
  let c0_20 : Index := 0#32
  ![v29.toNat, 0]
def k0_off8 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v35 : Index := Scalar.indexCast arg10
  let c0_21 : Index := 0#32
  ![v35.toNat, 0]
def k0_off9 (k0_t4 : Fin k0_t4_loop.trips) : Fin 2 → Nat :=
  let c2_i32_22 : BitVec 32 := 2#32
  let c0_i32_13 : BitVec 32 := 0#32
  let c1_i32_15 : BitVec 32 := 1#32
  let arg10 : BitVec 32 := Scf.iv c0_i32_13 c1_i32_15 k0_t4
  let v39 : BitVec 32 := Scalar.muli c2_i32_22 arg10
  let v40 : Index := Scalar.indexCast v39
  let c16 : Index := 16#32
  ![v40.toNat, 16]
def k0_off10 (k0_t4 : Fin k0_t4_loop.trips) : Fin 2 → Nat :=
  let c2_i32_23 : BitVec 32 := 2#32
  let c0_i32_13 : BitVec 32 := 0#32
  let c1_i32_15 : BitVec 32 := 1#32
  let arg10 : BitVec 32 := Scf.iv c0_i32_13 c1_i32_15 k0_t4
  let v43 : BitVec 32 := Scalar.muli c2_i32_23 arg10
  let c1_i32_24 : BitVec 32 := 1#32
  let v44 : BitVec 32 := Scalar.addi v43 c1_i32_24
  let v45 : Index := Scalar.indexCast v44
  let c16_25 : Index := 16#32
  ![v45.toNat, 16]
def k0_off11 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v51 : Index := Scalar.indexCast arg10
  let c16_27 : Index := 16#32
  ![v51.toNat, 16]
def k0_off12 (k0_t4 : Fin k0_t4_loop.trips) : Fin 2 → Nat :=
  let c2_i32_28 : BitVec 32 := 2#32
  let c0_i32_13 : BitVec 32 := 0#32
  let c1_i32_15 : BitVec 32 := 1#32
  let arg10 : BitVec 32 := Scf.iv c0_i32_13 c1_i32_15 k0_t4
  let v55 : BitVec 32 := Scalar.muli c2_i32_28 arg10
  let v56 : Index := Scalar.indexCast v55
  let c32 : Index := 32#32
  ![v56.toNat, 32]
def k0_off13 (k0_t4 : Fin k0_t4_loop.trips) : Fin 2 → Nat :=
  let c2_i32_29 : BitVec 32 := 2#32
  let c0_i32_13 : BitVec 32 := 0#32
  let c1_i32_15 : BitVec 32 := 1#32
  let arg10 : BitVec 32 := Scf.iv c0_i32_13 c1_i32_15 k0_t4
  let v59 : BitVec 32 := Scalar.muli c2_i32_29 arg10
  let c1_i32_30 : BitVec 32 := 1#32
  let v60 : BitVec 32 := Scalar.addi v59 c1_i32_30
  let v61 : Index := Scalar.indexCast v60
  let c32_31 : Index := 32#32
  ![v61.toNat, 32]
def k0_off14 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v67 : Index := Scalar.indexCast arg10
  let c32_33 : Index := 32#32
  ![v67.toNat, 32]
def k0_off15 (k0_t4 : Fin k0_t4_loop.trips) : Fin 2 → Nat :=
  let c2_i32_34 : BitVec 32 := 2#32
  let c0_i32_13 : BitVec 32 := 0#32
  let c1_i32_15 : BitVec 32 := 1#32
  let arg10 : BitVec 32 := Scf.iv c0_i32_13 c1_i32_15 k0_t4
  let v71 : BitVec 32 := Scalar.muli c2_i32_34 arg10
  let v72 : Index := Scalar.indexCast v71
  let c48 : Index := 48#32
  ![v72.toNat, 48]
def k0_off16 (k0_t4 : Fin k0_t4_loop.trips) : Fin 2 → Nat :=
  let c2_i32_35 : BitVec 32 := 2#32
  let c0_i32_13 : BitVec 32 := 0#32
  let c1_i32_15 : BitVec 32 := 1#32
  let arg10 : BitVec 32 := Scf.iv c0_i32_13 c1_i32_15 k0_t4
  let v75 : BitVec 32 := Scalar.muli c2_i32_35 arg10
  let c1_i32_36 : BitVec 32 := 1#32
  let v76 : BitVec 32 := Scalar.addi v75 c1_i32_36
  let v77 : Index := Scalar.indexCast v76
  let c48_37 : Index := 48#32
  ![v77.toNat, 48]
def k0_off17 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v83 : Index := Scalar.indexCast arg10
  let c48_39 : Index := 48#32
  ![v83.toNat, 48]
def k0_off18 (k0_t4 : Fin k0_t4_loop.trips) : Fin 2 → Nat :=
  let c2_i32_40 : BitVec 32 := 2#32
  let c0_i32_13 : BitVec 32 := 0#32
  let c1_i32_15 : BitVec 32 := 1#32
  let arg10 : BitVec 32 := Scf.iv c0_i32_13 c1_i32_15 k0_t4
  let v87 : BitVec 32 := Scalar.muli c2_i32_40 arg10
  let v88 : Index := Scalar.indexCast v87
  let c64 : Index := 64#32
  ![v88.toNat, 64]
def k0_off19 (k0_t4 : Fin k0_t4_loop.trips) : Fin 2 → Nat :=
  let c2_i32_41 : BitVec 32 := 2#32
  let c0_i32_13 : BitVec 32 := 0#32
  let c1_i32_15 : BitVec 32 := 1#32
  let arg10 : BitVec 32 := Scf.iv c0_i32_13 c1_i32_15 k0_t4
  let v91 : BitVec 32 := Scalar.muli c2_i32_41 arg10
  let c1_i32_42 : BitVec 32 := 1#32
  let v92 : BitVec 32 := Scalar.addi v91 c1_i32_42
  let v93 : Index := Scalar.indexCast v92
  let c64_43 : Index := 64#32
  ![v93.toNat, 64]
def k0_off20 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v99 : Index := Scalar.indexCast arg10
  let c64_45 : Index := 64#32
  ![v99.toNat, 64]
def k0_off21 (k0_t4 : Fin k0_t4_loop.trips) : Fin 2 → Nat :=
  let c2_i32_46 : BitVec 32 := 2#32
  let c0_i32_13 : BitVec 32 := 0#32
  let c1_i32_15 : BitVec 32 := 1#32
  let arg10 : BitVec 32 := Scf.iv c0_i32_13 c1_i32_15 k0_t4
  let v103 : BitVec 32 := Scalar.muli c2_i32_46 arg10
  let v104 : Index := Scalar.indexCast v103
  let c80 : Index := 80#32
  ![v104.toNat, 80]
def k0_off22 (k0_t4 : Fin k0_t4_loop.trips) : Fin 2 → Nat :=
  let c2_i32_47 : BitVec 32 := 2#32
  let c0_i32_13 : BitVec 32 := 0#32
  let c1_i32_15 : BitVec 32 := 1#32
  let arg10 : BitVec 32 := Scf.iv c0_i32_13 c1_i32_15 k0_t4
  let v107 : BitVec 32 := Scalar.muli c2_i32_47 arg10
  let c1_i32_48 : BitVec 32 := 1#32
  let v108 : BitVec 32 := Scalar.addi v107 c1_i32_48
  let v109 : Index := Scalar.indexCast v108
  let c80_49 : Index := 80#32
  ![v109.toNat, 80]
def k0_off23 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v115 : Index := Scalar.indexCast arg10
  let c80_51 : Index := 80#32
  ![v115.toNat, 80]
def k0_off24 (k0_t4 : Fin k0_t4_loop.trips) : Fin 2 → Nat :=
  let c2_i32_52 : BitVec 32 := 2#32
  let c0_i32_13 : BitVec 32 := 0#32
  let c1_i32_15 : BitVec 32 := 1#32
  let arg10 : BitVec 32 := Scf.iv c0_i32_13 c1_i32_15 k0_t4
  let v119 : BitVec 32 := Scalar.muli c2_i32_52 arg10
  let v120 : Index := Scalar.indexCast v119
  let c96 : Index := 96#32
  ![v120.toNat, 96]
def k0_off25 (k0_t4 : Fin k0_t4_loop.trips) : Fin 2 → Nat :=
  let c2_i32_53 : BitVec 32 := 2#32
  let c0_i32_13 : BitVec 32 := 0#32
  let c1_i32_15 : BitVec 32 := 1#32
  let arg10 : BitVec 32 := Scf.iv c0_i32_13 c1_i32_15 k0_t4
  let v123 : BitVec 32 := Scalar.muli c2_i32_53 arg10
  let c1_i32_54 : BitVec 32 := 1#32
  let v124 : BitVec 32 := Scalar.addi v123 c1_i32_54
  let v125 : Index := Scalar.indexCast v124
  let c96_55 : Index := 96#32
  ![v125.toNat, 96]
def k0_off26 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v131 : Index := Scalar.indexCast arg10
  let c96_57 : Index := 96#32
  ![v131.toNat, 96]
def k0_off27 (k0_t4 : Fin k0_t4_loop.trips) : Fin 2 → Nat :=
  let c2_i32_58 : BitVec 32 := 2#32
  let c0_i32_13 : BitVec 32 := 0#32
  let c1_i32_15 : BitVec 32 := 1#32
  let arg10 : BitVec 32 := Scf.iv c0_i32_13 c1_i32_15 k0_t4
  let v135 : BitVec 32 := Scalar.muli c2_i32_58 arg10
  let v136 : Index := Scalar.indexCast v135
  let c112 : Index := 112#32
  ![v136.toNat, 112]
def k0_off28 (k0_t4 : Fin k0_t4_loop.trips) : Fin 2 → Nat :=
  let c2_i32_59 : BitVec 32 := 2#32
  let c0_i32_13 : BitVec 32 := 0#32
  let c1_i32_15 : BitVec 32 := 1#32
  let arg10 : BitVec 32 := Scf.iv c0_i32_13 c1_i32_15 k0_t4
  let v139 : BitVec 32 := Scalar.muli c2_i32_59 arg10
  let c1_i32_60 : BitVec 32 := 1#32
  let v140 : BitVec 32 := Scalar.addi v139 c1_i32_60
  let v141 : Index := Scalar.indexCast v140
  let c112_61 : Index := 112#32
  ![v141.toNat, 112]
def k0_off29 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let v147 : Index := Scalar.indexCast arg10
  let c112_63 : Index := 112#32
  ![v147.toNat, 112]
def k0_off30 (i : grid0.Coords) (k0_t3 : Fin (k0_t3_loop i).trips) : Fin 2 → Nat :=
  let c100000_i32 : BitVec 32 := 100000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_6 : BitVec 32 := 1#32
  let arg9 : BitVec 32 := Scf.iv c0_i32_4 c1_i32_6 k0_t3
  let v16 : BitVec 32 := Scalar.muli c32_i32 arg9
  let v17 : BitVec 32 := Scalar.addi v1 v16
  let c40_i32 : BitVec 32 := 40#32
  let v18 : BitVec 32 := Scalar.muli v17 c40_i32
  let v22 : BitVec 32 := Scalar.addi c100000_i32 v18
  let c0_i32_19_r5 : BitVec 32 := 0#32
  ![v22.toNat, 0]
@[reducible] def k0_t5_loop (i : grid0.Coords) : Scf.Loop 32 :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v9 : BitVec 1 := Scalar.cmpi .slt v1 c4_i32
  let c79_i32 : BitVec 32 := 79#32
  let c78_i32 : BitVec 32 := 78#32
  let v10 : BitVec 32 := Scalar.select v9 c79_i32 c78_i32
  let v11 : BitVec 32 := Scalar.subi v10 c0_i32_4
  let c1_i32_5 : BitVec 32 := 1#32
  let v13 : BitVec 32 := Scalar.divsi v11 c1_i32_5
  let v14 : BitVec 32 := Scalar.muli v13 c1_i32_5
  let v15 : BitVec 32 := Scalar.addi c0_i32_4 v14
  let v12 : BitVec 32 := Scalar.addi c0_i32_4 v11
  let c1_i32_7 : BitVec 32 := 1#32
  ⟨v15, v12, c1_i32_7⟩
def k0_off31 (i : grid0.Coords) (k0_t5 : Fin (k0_t5_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c4_i32 : BitVec 32 := 4#32
  let v9 : BitVec 1 := Scalar.cmpi .slt v1 c4_i32
  let c79_i32 : BitVec 32 := 79#32
  let c78_i32 : BitVec 32 := 78#32
  let v10 : BitVec 32 := Scalar.select v9 c79_i32 c78_i32
  let v11 : BitVec 32 := Scalar.subi v10 c0_i32_4
  let c1_i32_5 : BitVec 32 := 1#32
  let v13 : BitVec 32 := Scalar.divsi v11 c1_i32_5
  let v14 : BitVec 32 := Scalar.muli v13 c1_i32_5
  let v15 : BitVec 32 := Scalar.addi c0_i32_4 v14
  let c1_i32_7 : BitVec 32 := 1#32
  let arg9 : BitVec 32 := Scf.iv v15 c1_i32_7 k0_t5
  let v16 : BitVec 32 := Scalar.muli c32_i32 arg9
  let v17 : BitVec 32 := Scalar.addi v1 v16
  let c0_i32_17_r6 : BitVec 32 := 0#32
  ![v17.toNat, 0]
@[reducible] def k0_t6_loop : Scf.Loop 32 :=
  let c0_i32_13 : BitVec 32 := 0#32
  let c40_i32_14 : BitVec 32 := 40#32
  let v21 : BitVec 32 := Scalar.addi c0_i32_13 c40_i32_14
  let c1_i32_15 : BitVec 32 := 1#32
  ⟨c0_i32_13, v21, c1_i32_15⟩
def k0_off32 (k0_t6 : Fin k0_t6_loop.trips) : Fin 2 → Nat :=
  let c2_i32_17 : BitVec 32 := 2#32
  let c0_i32_13 : BitVec 32 := 0#32
  let c1_i32_15 : BitVec 32 := 1#32
  let arg10 : BitVec 32 := Scf.iv c0_i32_13 c1_i32_15 k0_t6
  let v23 : BitVec 32 := Scalar.muli c2_i32_17 arg10
  let v24 : Index := Scalar.indexCast v23
  let c0 : Index := 0#32
  ![v24.toNat, 0]
def k0_off33 (k0_t6 : Fin k0_t6_loop.trips) : Fin 2 → Nat :=
  let c2_i32_18 : BitVec 32 := 2#32
  let c0_i32_13 : BitVec 32 := 0#32
  let c1_i32_15 : BitVec 32 := 1#32
  let arg10 : BitVec 32 := Scf.iv c0_i32_13 c1_i32_15 k0_t6
  let v27 : BitVec 32 := Scalar.muli c2_i32_18 arg10
  let c1_i32_19 : BitVec 32 := 1#32
  let v28 : BitVec 32 := Scalar.addi v27 c1_i32_19
  let v29 : Index := Scalar.indexCast v28
  let c0_20 : Index := 0#32
  ![v29.toNat, 0]
def k0_off34 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v35 : Index := Scalar.indexCast arg10
  let c0_21 : Index := 0#32
  ![v35.toNat, 0]
def k0_off35 (k0_t6 : Fin k0_t6_loop.trips) : Fin 2 → Nat :=
  let c2_i32_22 : BitVec 32 := 2#32
  let c0_i32_13 : BitVec 32 := 0#32
  let c1_i32_15 : BitVec 32 := 1#32
  let arg10 : BitVec 32 := Scf.iv c0_i32_13 c1_i32_15 k0_t6
  let v39 : BitVec 32 := Scalar.muli c2_i32_22 arg10
  let v40 : Index := Scalar.indexCast v39
  let c16 : Index := 16#32
  ![v40.toNat, 16]
def k0_off36 (k0_t6 : Fin k0_t6_loop.trips) : Fin 2 → Nat :=
  let c2_i32_23 : BitVec 32 := 2#32
  let c0_i32_13 : BitVec 32 := 0#32
  let c1_i32_15 : BitVec 32 := 1#32
  let arg10 : BitVec 32 := Scf.iv c0_i32_13 c1_i32_15 k0_t6
  let v43 : BitVec 32 := Scalar.muli c2_i32_23 arg10
  let c1_i32_24 : BitVec 32 := 1#32
  let v44 : BitVec 32 := Scalar.addi v43 c1_i32_24
  let v45 : Index := Scalar.indexCast v44
  let c16_25 : Index := 16#32
  ![v45.toNat, 16]
def k0_off37 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v51 : Index := Scalar.indexCast arg10
  let c16_27 : Index := 16#32
  ![v51.toNat, 16]
def k0_off38 (k0_t6 : Fin k0_t6_loop.trips) : Fin 2 → Nat :=
  let c2_i32_28 : BitVec 32 := 2#32
  let c0_i32_13 : BitVec 32 := 0#32
  let c1_i32_15 : BitVec 32 := 1#32
  let arg10 : BitVec 32 := Scf.iv c0_i32_13 c1_i32_15 k0_t6
  let v55 : BitVec 32 := Scalar.muli c2_i32_28 arg10
  let v56 : Index := Scalar.indexCast v55
  let c32 : Index := 32#32
  ![v56.toNat, 32]
def k0_off39 (k0_t6 : Fin k0_t6_loop.trips) : Fin 2 → Nat :=
  let c2_i32_29 : BitVec 32 := 2#32
  let c0_i32_13 : BitVec 32 := 0#32
  let c1_i32_15 : BitVec 32 := 1#32
  let arg10 : BitVec 32 := Scf.iv c0_i32_13 c1_i32_15 k0_t6
  let v59 : BitVec 32 := Scalar.muli c2_i32_29 arg10
  let c1_i32_30 : BitVec 32 := 1#32
  let v60 : BitVec 32 := Scalar.addi v59 c1_i32_30
  let v61 : Index := Scalar.indexCast v60
  let c32_31 : Index := 32#32
  ![v61.toNat, 32]
def k0_off40 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v67 : Index := Scalar.indexCast arg10
  let c32_33 : Index := 32#32
  ![v67.toNat, 32]
def k0_off41 (k0_t6 : Fin k0_t6_loop.trips) : Fin 2 → Nat :=
  let c2_i32_34 : BitVec 32 := 2#32
  let c0_i32_13 : BitVec 32 := 0#32
  let c1_i32_15 : BitVec 32 := 1#32
  let arg10 : BitVec 32 := Scf.iv c0_i32_13 c1_i32_15 k0_t6
  let v71 : BitVec 32 := Scalar.muli c2_i32_34 arg10
  let v72 : Index := Scalar.indexCast v71
  let c48 : Index := 48#32
  ![v72.toNat, 48]
def k0_off42 (k0_t6 : Fin k0_t6_loop.trips) : Fin 2 → Nat :=
  let c2_i32_35 : BitVec 32 := 2#32
  let c0_i32_13 : BitVec 32 := 0#32
  let c1_i32_15 : BitVec 32 := 1#32
  let arg10 : BitVec 32 := Scf.iv c0_i32_13 c1_i32_15 k0_t6
  let v75 : BitVec 32 := Scalar.muli c2_i32_35 arg10
  let c1_i32_36 : BitVec 32 := 1#32
  let v76 : BitVec 32 := Scalar.addi v75 c1_i32_36
  let v77 : Index := Scalar.indexCast v76
  let c48_37 : Index := 48#32
  ![v77.toNat, 48]
def k0_off43 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v83 : Index := Scalar.indexCast arg10
  let c48_39 : Index := 48#32
  ![v83.toNat, 48]
def k0_off44 (k0_t6 : Fin k0_t6_loop.trips) : Fin 2 → Nat :=
  let c2_i32_40 : BitVec 32 := 2#32
  let c0_i32_13 : BitVec 32 := 0#32
  let c1_i32_15 : BitVec 32 := 1#32
  let arg10 : BitVec 32 := Scf.iv c0_i32_13 c1_i32_15 k0_t6
  let v87 : BitVec 32 := Scalar.muli c2_i32_40 arg10
  let v88 : Index := Scalar.indexCast v87
  let c64 : Index := 64#32
  ![v88.toNat, 64]
def k0_off45 (k0_t6 : Fin k0_t6_loop.trips) : Fin 2 → Nat :=
  let c2_i32_41 : BitVec 32 := 2#32
  let c0_i32_13 : BitVec 32 := 0#32
  let c1_i32_15 : BitVec 32 := 1#32
  let arg10 : BitVec 32 := Scf.iv c0_i32_13 c1_i32_15 k0_t6
  let v91 : BitVec 32 := Scalar.muli c2_i32_41 arg10
  let c1_i32_42 : BitVec 32 := 1#32
  let v92 : BitVec 32 := Scalar.addi v91 c1_i32_42
  let v93 : Index := Scalar.indexCast v92
  let c64_43 : Index := 64#32
  ![v93.toNat, 64]
def k0_off46 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v99 : Index := Scalar.indexCast arg10
  let c64_45 : Index := 64#32
  ![v99.toNat, 64]
def k0_off47 (k0_t6 : Fin k0_t6_loop.trips) : Fin 2 → Nat :=
  let c2_i32_46 : BitVec 32 := 2#32
  let c0_i32_13 : BitVec 32 := 0#32
  let c1_i32_15 : BitVec 32 := 1#32
  let arg10 : BitVec 32 := Scf.iv c0_i32_13 c1_i32_15 k0_t6
  let v103 : BitVec 32 := Scalar.muli c2_i32_46 arg10
  let v104 : Index := Scalar.indexCast v103
  let c80 : Index := 80#32
  ![v104.toNat, 80]
def k0_off48 (k0_t6 : Fin k0_t6_loop.trips) : Fin 2 → Nat :=
  let c2_i32_47 : BitVec 32 := 2#32
  let c0_i32_13 : BitVec 32 := 0#32
  let c1_i32_15 : BitVec 32 := 1#32
  let arg10 : BitVec 32 := Scf.iv c0_i32_13 c1_i32_15 k0_t6
  let v107 : BitVec 32 := Scalar.muli c2_i32_47 arg10
  let c1_i32_48 : BitVec 32 := 1#32
  let v108 : BitVec 32 := Scalar.addi v107 c1_i32_48
  let v109 : Index := Scalar.indexCast v108
  let c80_49 : Index := 80#32
  ![v109.toNat, 80]
def k0_off49 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v115 : Index := Scalar.indexCast arg10
  let c80_51 : Index := 80#32
  ![v115.toNat, 80]
def k0_off50 (k0_t6 : Fin k0_t6_loop.trips) : Fin 2 → Nat :=
  let c2_i32_52 : BitVec 32 := 2#32
  let c0_i32_13 : BitVec 32 := 0#32
  let c1_i32_15 : BitVec 32 := 1#32
  let arg10 : BitVec 32 := Scf.iv c0_i32_13 c1_i32_15 k0_t6
  let v119 : BitVec 32 := Scalar.muli c2_i32_52 arg10
  let v120 : Index := Scalar.indexCast v119
  let c96 : Index := 96#32
  ![v120.toNat, 96]
def k0_off51 (k0_t6 : Fin k0_t6_loop.trips) : Fin 2 → Nat :=
  let c2_i32_53 : BitVec 32 := 2#32
  let c0_i32_13 : BitVec 32 := 0#32
  let c1_i32_15 : BitVec 32 := 1#32
  let arg10 : BitVec 32 := Scf.iv c0_i32_13 c1_i32_15 k0_t6
  let v123 : BitVec 32 := Scalar.muli c2_i32_53 arg10
  let c1_i32_54 : BitVec 32 := 1#32
  let v124 : BitVec 32 := Scalar.addi v123 c1_i32_54
  let v125 : Index := Scalar.indexCast v124
  let c96_55 : Index := 96#32
  ![v125.toNat, 96]
def k0_off52 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v131 : Index := Scalar.indexCast arg10
  let c96_57 : Index := 96#32
  ![v131.toNat, 96]
def k0_off53 (k0_t6 : Fin k0_t6_loop.trips) : Fin 2 → Nat :=
  let c2_i32_58 : BitVec 32 := 2#32
  let c0_i32_13 : BitVec 32 := 0#32
  let c1_i32_15 : BitVec 32 := 1#32
  let arg10 : BitVec 32 := Scf.iv c0_i32_13 c1_i32_15 k0_t6
  let v135 : BitVec 32 := Scalar.muli c2_i32_58 arg10
  let v136 : Index := Scalar.indexCast v135
  let c112 : Index := 112#32
  ![v136.toNat, 112]
def k0_off54 (k0_t6 : Fin k0_t6_loop.trips) : Fin 2 → Nat :=
  let c2_i32_59 : BitVec 32 := 2#32
  let c0_i32_13 : BitVec 32 := 0#32
  let c1_i32_15 : BitVec 32 := 1#32
  let arg10 : BitVec 32 := Scf.iv c0_i32_13 c1_i32_15 k0_t6
  let v139 : BitVec 32 := Scalar.muli c2_i32_59 arg10
  let c1_i32_60 : BitVec 32 := 1#32
  let v140 : BitVec 32 := Scalar.addi v139 c1_i32_60
  let v141 : Index := Scalar.indexCast v140
  let c112_61 : Index := 112#32
  ![v141.toNat, 112]
def k0_off55 (k0_t6 : Fin k0_t6_loop.trips) : Fin 2 → Nat :=
  let c0_i32_13 : BitVec 32 := 0#32
  let c1_i32_15 : BitVec 32 := 1#32
  let arg10 : BitVec 32 := Scf.iv c0_i32_13 c1_i32_15 k0_t6
  let v147 : Index := Scalar.indexCast arg10
  let c112_63 : Index := 112#32
  ![v147.toNat, 112]
def k0_off56 (i : grid0.Coords) (k0_t5 : Fin (k0_t5_loop i).trips) : Fin 2 → Nat :=
  let c100000_i32 : BitVec 32 := 100000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c4_i32 : BitVec 32 := 4#32
  let v9 : BitVec 1 := Scalar.cmpi .slt v1 c4_i32
  let c79_i32 : BitVec 32 := 79#32
  let c78_i32 : BitVec 32 := 78#32
  let v10 : BitVec 32 := Scalar.select v9 c79_i32 c78_i32
  let v11 : BitVec 32 := Scalar.subi v10 c0_i32_4
  let c1_i32_5 : BitVec 32 := 1#32
  let v13 : BitVec 32 := Scalar.divsi v11 c1_i32_5
  let v14 : BitVec 32 := Scalar.muli v13 c1_i32_5
  let v15 : BitVec 32 := Scalar.addi c0_i32_4 v14
  let c1_i32_7 : BitVec 32 := 1#32
  let arg9 : BitVec 32 := Scf.iv v15 c1_i32_7 k0_t5
  let v16 : BitVec 32 := Scalar.muli c32_i32 arg9
  let v17 : BitVec 32 := Scalar.addi v1 v16
  let c40_i32 : BitVec 32 := 40#32
  let v18 : BitVec 32 := Scalar.muli v17 c40_i32
  let v22 : BitVec 32 := Scalar.addi c100000_i32 v18
  let c0_i32_19_r7 : BitVec 32 := 0#32
  ![v22.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000x2 : Shape := ⟨2, ![100000, 2]⟩
abbrev S_ : Shape := ⟨0, ![]⟩
abbrev S100000x2x1 : Shape := ⟨3, ![100000, 2, 1]⟩
abbrev S1 : Shape := ⟨1, ![1]⟩
abbrev S1x1x1 : Shape := ⟨3, ![1, 1, 1]⟩
abbrev S100000x2x128 : Shape := ⟨3, ![100000, 2, 128]⟩
abbrev S200000x128 : Shape := ⟨2, ![200000, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x2, .i32⟩
  | .hbm, ⟨2, _⟩ => ⟨S_, .i32⟩
  | .hbm, ⟨3, _⟩ => ⟨S100000x2, .i32⟩
  | .hbm, ⟨4, _⟩ => ⟨S100000x2, .i1⟩
  | .hbm, ⟨5, _⟩ => ⟨S_, .i32⟩
  | .hbm, ⟨6, _⟩ => ⟨S100000x2, .i32⟩
  | .hbm, ⟨7, _⟩ => ⟨S100000x2, .i32⟩
  | .hbm, ⟨8, _⟩ => ⟨S100000x2, .i32⟩
  | .hbm, ⟨9, _⟩ => ⟨S100000x2x1, .i32⟩
  | .hbm, ⟨10, _⟩ => ⟨S1, .i32⟩
  | .hbm, ⟨11, _⟩ => ⟨S_, .i32⟩
  | .hbm, ⟨12, _⟩ => ⟨S100000x2x1, .i32⟩
  | .hbm, ⟨13, _⟩ => ⟨S100000x2x1, .i1⟩
  | .hbm, ⟨14, _⟩ => ⟨S1x1x1, .i32⟩
  | .hbm, ⟨15, _⟩ => ⟨S100000x2x1, .i32⟩
  | .hbm, ⟨16, _⟩ => ⟨S100000x2x1, .i1⟩
  | .hbm, ⟨17, _⟩ => ⟨S100000x2x1, .i1⟩
  | .hbm, ⟨18, _⟩ => ⟨S_, .i1⟩
  | .hbm, ⟨19, _⟩ => ⟨S100000x2, .i1⟩
  | .hbm, ⟨20, _⟩ => ⟨S100000x2x128, .f32⟩
  | .hbm, ⟨21, _⟩ => ⟨S100000x2x128, .i1⟩
  | .hbm, ⟨22, _⟩ => ⟨S_, .f32⟩
  | .hbm, ⟨23, _⟩ => ⟨S100000x2x128, .f32⟩
  | .hbm, ⟨24, _⟩ => ⟨S100000x2x128, .f32⟩
  | .hbm, ⟨25, _⟩ => ⟨S_, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S200000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Target.lean ====
/-
  What the kernel computes, and which tile writes which row, with no program in sight. The result has 200000 rows. Its
  first 100000 are the rows of `x`; row `100000 + n` is half the sum of the two rows of `x` that the index list names for
  pair `n`. The list arrives as 2500 lines of 80 words: line `c` holds the forty pairs `40 c … 40 c + 39`, side by side.
  The thirty-two tiles deal the work out in turn: tile `w` copies the blocks of 400 rows number `w`, `w + 32`, … and pools
  the lines number `w`, `w + 32`, ….
-/
module

public import Idealize.ShloMosaic.PureOps
public import Idealize.ShloMosaic.Lib.ValueIdxCore
public import Idealize.ShloMosaic.Lib.Pipeline.Value

@[expose] public section

noncomputable section

namespace Cert.Proof.Target

open Idealize.ShloMosaic Idealize.ShloMosaic.ValueIdx

/-- The table's shape. -/
abbrev Tab : Shape := ⟨2, ![100000, 128]⟩
/-- The result's shape. -/
abbrev Res : Shape := ⟨2, ![200000, 128]⟩
/-- The index list's shape, one line per pooled chunk. -/
abbrev Lst : Shape := ⟨2, ![2500, 80]⟩
/-- A tile's working rows: the eighty gathered ones. -/
abbrev Work : Shape := ⟨2, ![80, 128]⟩

variable {F : FTy → Type} [FloatOps F]

/-- Half the sum of two values, rounded as the vector unit rounds. -/
def mean (a b : F .f32) : F .f32 := FloatOps.mulf (FloatOps.addf a b) (Scalar.ofBits .f32 0x3F000000#32)

/-- The table's row number `v`, a word, read at column `l`: row `0` when the word is no row. -/
def row (x : Tab.Idx → Elt F .f32) (v : BitVec 32) (l : Fin 128) : Elt F .f32 :=
  x (ix2 (n0 := 100000) (n1 := 128) ⟨v.toNat % 100000, Nat.mod_lt _ (by omega)⟩ l)

/-- The result, entry by entry. -/
def target (x : Tab.Idx → Elt F .f32) (p : Lst.Idx → BitVec 32) (j : Res.Idx) : Elt F .f32 :=
  if h : (j 0).val < 100000 then x (ix2 (n0 := 100000) (n1 := 128) ⟨(j 0).val, h⟩ (j 1))
  else
    have hj : (j 0).val < 200000 := (j 0).isLt
    mean (row x (p (ix2 (n0 := 2500) (n1 := 80) ⟨((j 0).val - 100000) / 40, by omega⟩ ⟨2 * (((j 0).val - 100000) % 40), by omega⟩)) (j 1))
      (row x (p (ix2 (n0 := 2500) (n1 := 80) ⟨((j 0).val - 100000) / 40, by omega⟩ ⟨2 * (((j 0).val - 100000) % 40) + 1, by omega⟩)) (j 1))

/-- The number of the block or of the line a result row belongs to. -/
def pieceNo (j : Res.Idx) : ℕ := if (j 0).val < 100000 then (j 0).val / 400 else ((j 0).val - 100000) / 40

/-- The rows of tile `w`. -/
def own (w : ℕ) : Finset Res.Idx := Finset.univ.filter fun j => pieceNo j % 32 = w

/-- A row is tile `w`'s when its block's or line's number leaves `w` modulo 32. -/
theorem mem_own {w : ℕ} {j : Res.Idx} : j ∈ own w ↔ pieceNo j % 32 = w := by simp [own]

/-- The rows of the sixteen tiles of SparseCore `c`. -/
def ownCore (c : ℕ) : Finset Res.Idx := Finset.univ.filter fun j => pieceNo j % 2 = c

/-- The result with the first `a` blocks of a tile copied and its first `b` lines pooled, the rest as in `f`. -/
def stage (x : Tab.Idx → Elt F .f32) (p : Lst.Idx → BitVec 32) (f : Res.Idx → Elt F .f32) (a b : ℕ) (j : Res.Idx) : Elt F .f32 :=
  if pieceNo j / 32 < (if (j 0).val < 100000 then a else b) then target x p j else f j

/-- The working rows with the pairs below `t` pooled into their row, the pair `t` so far in its first `16 g` columns. -/
def mid (G : Work.Idx → Elt F .f32) (t g : ℕ) (y : Work.Idx) : Elt F .f32 :=
  if h : 2 * (y 0).val + 1 < 80 ∧ ((y 0).val < t ∨ ((y 0).val = t ∧ (y 1).val < 16 * g)) then
    mean (G (ix2 (n0 := 80) (n1 := 128) ⟨2 * (y 0).val, by omega⟩ (y 1))) (G (ix2 (n0 := 80) (n1 := 128) ⟨2 * (y 0).val + 1, h.1⟩ (y 1)))
  else G y

/-- With no block copied and no line pooled the result is as it was. -/
theorem stage_zero (x : Tab.Idx → Elt F .f32) (p : Lst.Idx → BitVec 32) (f : Res.Idx → Elt F .f32) : stage x p f 0 0 = f := by
  funext j; simp [stage]

/-- With no pair pooled the working rows are as gathered. -/
theorem mid_zero (G : Work.Idx → Elt F .f32) : mid G 0 0 = G := by
  funext y; simp [mid]

/-- A pair pooled in all eight column groups is pooled. -/
theorem mid_eight (G : Work.Idx → Elt F .f32) (t : ℕ) : mid G t 8 = mid G (t + 1) 0 := by
  funext y
  have : (y 1).val < 128 := (y 1).isLt
  have e : (2 * (y 0).val + 1 < 80 ∧ ((y 0).val < t ∨ ((y 0).val = t ∧ (y 1).val < 16 * 8)))
      ↔ (2 * (y 0).val + 1 < 80 ∧ ((y 0).val < t + 1 ∨ ((y 0).val = t + 1 ∧ (y 1).val < 16 * 0))) := by omega
  unfold mid
  by_cases h : 2 * (y 0).val + 1 < 80 ∧ ((y 0).val < t ∨ ((y 0).val = t ∧ (y 1).val < 16 * 8))
  · rw [dif_pos h, dif_pos (e.mp h)]
  · rw [dif_neg h, dif_neg (mt e.mpr h)]

/-- Whatever number of blocks and lines past a tile's last, its rows are the same. -/
theorem stage_full (x : Tab.Idx → Elt F .f32) (p : Lst.Idx → BitVec 32) (f : Res.Idx → Elt F .f32) {w a b a' b' : ℕ}
    (ha : 250 ≤ w + 32 * a) (ha' : 250 ≤ w + 32 * a')
    (hb : 2500 ≤ w + 32 * b ∧ 2500 ≤ w + 32 * b' ∨ b = b') {j : Res.Idx} (hj : j ∈ own w) :
    stage x p f a b j = stage x p f a' b' j := by
  have hj0 : (j 0).val < 200000 := (j 0).isLt
  have hw := mem_own.mp hj
  unfold stage
  congr 1
  unfold pieceNo at *
  simp only [eq_iff_iff]
  split <;> simp_all <;> omega

/-- With every block and line done a tile's rows hold the result. -/
theorem stage_done (x : Tab.Idx → Elt F .f32) (p : Lst.Idx → BitVec 32) (f : Res.Idx → Elt F .f32) {w a b : ℕ}
    (ha : 250 ≤ w + 32 * a) (hb : 2500 ≤ w + 32 * b) {j : Res.Idx} (hj : j ∈ own w) :
    stage x p f a b j = target x p j := by
  have hj0 : (j 0).val < 200000 := (j 0).isLt
  have hw := mem_own.mp hj
  unfold stage
  apply if_pos
  unfold pieceNo at *
  split <;> simp_all <;> omega

/-- Every row is some tile's. -/
theorem own_cover (c : Fin 2) : (Finset.univ.biUnion fun s : Fin 16 => own (2 * s.val + c.val)) = ownCore c.val := by
  ext j
  simp only [Finset.mem_biUnion, Finset.mem_univ, true_and, mem_own, ownCore, Finset.mem_filter]
  constructor
  · rintro ⟨s, h⟩; omega
  · intro h; exact ⟨⟨pieceNo j % 32 / 2, by omega⟩, by simp only; omega⟩

/-- No row is two tiles' of one SparseCore. -/
theorem own_disjoint (c : Fin 2) {s s' : Fin 16} (h : s ≠ s') : Disjoint (own (2 * s.val + c.val)) (own (2 * s'.val + c.val)) := by
  rw [Finset.disjoint_left]
  intro j h1 h2
  rw [mem_own] at h1 h2
  exact h (Fin.ext (by omega))

/-- Every row is one of the two SparseCores'. -/
theorem ownCore_cover : (Finset.univ.biUnion fun c : Fin 2 => ownCore c.val) = Finset.univ := by
  ext j
  simp only [Finset.mem_biUnion, Finset.mem_univ, true_and, ownCore, Finset.mem_filter, iff_true]
  exact ⟨⟨pieceNo j % 2, by omega⟩, rfl⟩

/-- No row is both SparseCores'. -/
theorem ownCore_disjoint {c c' : Fin 2} (h : c ≠ c') : Disjoint (ownCore c.val) (ownCore c'.val) := by
  rw [Finset.disjoint_left]
  intro j h1 h2
  simp only [ownCore, Finset.mem_filter, Finset.mem_univ, true_and] at h1 h2
  exact h (Fin.ext (by omega))

end Cert.Proof.Target
-- ==== Proof.Moves.lean ====
/-
  What the kernel's transfers and stores leave behind, read through any view of the buffers' shapes: one block of rows
  copied, one line of rows gathered and stored out, one group of sixteen columns pooled.
-/
module

public import proofs.«01_k».proof.Proof.Target
public import Idealize.ShloMosaic.Lib.WritesUnit
public import Idealize.ShloMosaic.Lib.SparseCore.Stream

@[expose] public section

noncomputable section

namespace Cert.Proof.Moves

open Idealize.ShloMosaic Idealize.ShloMosaic.ValueIdx Cert.Proof.Target

variable {F : FTy → Type} [FloatOps F]
variable {sig : RefSig} {κ : Kind} {sp : Space}

/-- A read through a unit-stride rectangle, at a place named by its coordinates. -/
theorem read_unit {s : Shape} {e : EltTy} (v : View sig κ sp s e) (f : v.ty.Contents (Elt F)) {off size : Fin s.rank → ℕ}
    (inb : ∀ a, off a + size a ≤ s.size a) (x : (Rect.unit off size inb).shape.Idx) (y : s.Idx)
    (h : ∀ a, (y a).val = off a + (x a).val) : (v.slice (Rect.unit off size inb)).read (Elt F) f x = v.read (Elt F) f y := by
  have e : (Rect.unit off size inb).emb x = y := funext fun a => Fin.ext (by
    show off a + 1 * (x a).val = (y a).val
    rw [h a, Nat.one_mul])
  rw [← e]; rfl

/-- One group of a pair: storing half the sum of the group's entries in rows `2 t` and `2 t + 1`, as the trip found them, into row `t` pools sixteen
    more columns of row `t`. -/
theorem pool_step (v : View sig κ sp Work .f32) (G : Work.Idx → Elt F .f32) (f₀ f : v.ty.Contents (Elt F)) {t g : ℕ}
    (ht : t < 40) (hf₀ : v.read (Elt F) f₀ = mid G t 0) (hf : v.read (Elt F) f = mid G t g) {oa ob oc : Fin 2 → ℕ}
    (ha : oa = ![2 * t, 16 * g]) (hb : ob = ![2 * t + 1, 16 * g]) (hc : oc = ![t, 16 * g])
    (ia : ∀ a, oa a + (![1, 16] : Fin 2 → ℕ) a ≤ Work.size a) (ib : ∀ a, ob a + (![1, 16] : Fin 2 → ℕ) a ≤ Work.size a)
    (ic : ∀ a, oc a + (![1, 16] : Fin 2 → ℕ) a ≤ Work.size a) (w : (Rect.unit (s := Work) oc ![1, 16] ic).shape.Idx → Elt F .f32)
    (hw : ∀ x, w x = mean ((v.slice (Rect.unit (s := Work) oa ![1, 16] ia)).read (Elt F) f₀ x)
      ((v.slice (Rect.unit (s := Work) ob ![1, 16] ib)).read (Elt F) f₀ x)) :
    v.read (Elt F) ((v.slice (Rect.unit (s := Work) oc ![1, 16] ic)).write (Elt F) f w Finset.univ) = mid G t (g + 1) := by
  have hg : 16 * g + 16 ≤ 128 := by have := ic 1; rw [hc] at this; simpa using this
  funext y
  have y0 : (y 0).val < 80 := (y 0).isLt
  have y1 : (y 1).val < 128 := (y 1).isLt
  rw [← View.writes_singleton]
  by_cases h : (y 0).val = t ∧ 16 * g ≤ (y 1).val ∧ (y 1).val < 16 * g + 16
  · obtain ⟨h0, h1, h2⟩ := h
    let x : (⟨2, ![1, 16]⟩ : Shape).Idx := ix2 (n0 := 1) (n1 := 16) ⟨0, by omega⟩ ⟨(y 1).val - 16 * g, by omega⟩
    have hx0 : (x 0).val = 0 := rfl
    have hx1 : (x 1).val = (y 1).val - 16 * g := rfl
    rw [View.read_writes_cons_unit_of_mem v f ic w [] y x hc (by
      intro a
      match a with
      | ⟨0, _⟩ => show (y 0).val = t + (x 0).val; omega
      | ⟨1, _⟩ => show (y 1).val = 16 * g + (x 1).val; omega), hw]
    have hl : ∀ (o : Fin 2 → ℕ) (r : ℕ) (hr : r < 80) (ho : o = ![r, 16 * g]) (i : ∀ a, o a + (![1, 16] : Fin 2 → ℕ) a ≤ Work.size a)
        (hG : ¬ r < t),
        (v.slice (Rect.unit (s := Work) o ![1, 16] i)).read (Elt F) f₀ x = G (ix2 (n0 := 80) (n1 := 128) ⟨r, hr⟩ (y 1)) := by
      intro o r hr ho i hG
      subst ho
      rw [read_unit v f₀ i x (ix2 (n0 := 80) (n1 := 128) ⟨r, hr⟩ (y 1)) (by
        intro a
        match a with
        | ⟨0, _⟩ => show r = r + (x 0).val; omega
        | ⟨1, _⟩ => show (y 1).val = 16 * g + (x 1).val; omega), hf₀]
      exact dif_neg fun hh => by have hh' : r < t ∨ (r = t ∧ (y 1).val < 16 * 0) := hh.2; omega
    rw [hl oa (2 * t) (by omega) ha ia (by omega), hl ob (2 * t + 1) (by omega) hb ib (by omega)]
    have : mid G t (g + 1) y = mean (G (ix2 (n0 := 80) (n1 := 128) ⟨2 * (y 0).val, by omega⟩ (y 1)))
        (G (ix2 (n0 := 80) (n1 := 128) ⟨2 * (y 0).val + 1, by omega⟩ (y 1))) := dif_pos ⟨by omega, by omega⟩
    rw [this]
    simp only [h0]
  · have hmid : mid G t (g + 1) y = mid G t g y := by
      unfold mid
      by_cases h' : 2 * (y 0).val + 1 < 80 ∧ ((y 0).val < t ∨ ((y 0).val = t ∧ (y 1).val < 16 * g))
      · rw [dif_pos h', dif_pos ⟨h'.1, by omega⟩]
      · rw [dif_neg h', dif_neg (by omega)]
    rw [hmid, ← hf]
    by_cases h0 : (y 0).val = t
    · rw [View.read_writes_cons_unit_of_not_mem v f ic w [] y hc 1 (by
        show (y 1).val < 16 * g ∨ 16 * g + 16 ≤ (y 1).val; omega)]
      rfl
    · rw [View.read_writes_cons_unit_of_not_mem v f ic w [] y hc 0 (by
        show (y 0).val < t ∨ t + 1 ≤ (y 0).val; omega)]
      rfl

/-- The vector unit's half of a sum, at a place. -/
theorem mean_apply (a b : (⟨2, ![1, 16]⟩ : Shape).Idx → F .f32) (h : (⟨2, ![1, 16]⟩ : Shape).ShapeCasts ⟨1, ![16]⟩)
    (h' : (⟨1, ![16]⟩ : Shape).ShapeCasts ⟨2, ![1, 16]⟩) (x : (⟨2, ![1, 16]⟩ : Shape).Idx) :
    shapeCast ⟨2, ![1, 16]⟩ (mulf (addf (shapeCast ⟨1, ![16]⟩ a h) (shapeCast ⟨1, ![16]⟩ b h))
      (broadcast ⟨1, ![16]⟩ (Scalar.ofBits (F := F) .f32 0x3F000000#32))) h' x = mean (a x) (b x) := by
  have e : Shape.reshapeEquiv h (Shape.reshapeEquiv h' x) = x :=
    (Shape.reshapeEquiv_reshapeEquiv _ _ x).trans (Shape.reshapeEquiv_self _ x)
  have : ∀ y, y = x → FloatOps.mulf (FloatOps.addf (a y) (b y)) (Scalar.ofBits (F := F) .f32 0x3F000000#32) = mean (a x) (b x) := by
    rintro _ rfl; rfl
  exact this _ e

/-! ## One block copied -/

section Block

variable {w a b : ℕ} {off : Fin 2 → ℕ} (ho : off = ![400 * (w + 32 * a), 0]) (hw : w < 32) (hlt : w + 32 * a < 250)
  (inb : ∀ i, off i + (![400, 128] : Fin 2 → ℕ) i ≤ Res.size i)
include ho

/-- The rows of a block are those from its offset on. -/
theorem mem_block {j : Res.Idx} : j ∈ (Rect.unit (s := Res) off ![400, 128] inb).set
    ↔ 400 * (w + 32 * a) ≤ (j 0).val ∧ (j 0).val < 400 * (w + 32 * a) + 400 := by
  subst ho
  rw [Rect.mem_set_unit]
  constructor
  · intro h; exact h 0
  · intro h i
    have h1 : (j 1).val < 128 := (j 1).isLt
    match i with
    | ⟨0, _⟩ => exact h
    | ⟨1, _⟩ => show 0 ≤ (j 1).val ∧ (j 1).val < 0 + 128; omega

include hw hlt

/-- A tile's block is among its rows. -/
theorem block_sub : (Rect.unit (s := Res) off ![400, 128] inb).set ⊆ own w := by
  intro j hj
  have h := (mem_block ho inb).mp hj
  rw [mem_own]
  unfold pieceNo
  split <;> omega

/-- Off the block a tile's rows are as before. -/
theorem block_off (x : Tab.Idx → Elt F .f32) (p : Lst.Idx → BitVec 32) (f : Res.Idx → Elt F .f32) {j : Res.Idx}
    (hj : j ∈ own w \ (Rect.unit (s := Res) off ![400, 128] inb).set) : stage x p f a b j = stage x p f (a + 1) b j := by
  rw [Finset.mem_sdiff, mem_block ho inb, mem_own] at hj
  obtain ⟨h1, h2⟩ := hj
  unfold stage
  congr 1
  unfold pieceNo at *
  simp only [eq_iff_iff]
  split <;> simp_all <;> omega

/-- On the block they are the table's. -/
theorem block_on (x : Tab.Idx → Elt F .f32) (p : Lst.Idx → BitVec 32) (f : Res.Idx → Elt F .f32)
    (v : View sig κ sp Res .f32) (g : v.ty.Contents (Elt F)) (pay : (Rect.unit (s := Res) off ![400, 128] inb).shape.Idx → Elt F .f32)
    (hpay : ∀ (y : (⟨2, ![400, 128]⟩ : Shape).Idx) (z : Tab.Idx), (∀ i, (z i).val = off i + (y i).val) → pay y = x z)
    {j : Res.Idx} (hj : j ∈ (Rect.unit (s := Res) off ![400, 128] inb).set) :
    v.read (Elt F) ((v.slice (Rect.unit (s := Res) off ![400, 128] inb)).write (Elt F) g pay Finset.univ) j = stage x p f (a + 1) b j := by
  have h := (mem_block ho inb).mp hj
  have h1 : (j 1).val < 128 := (j 1).isLt
  let y : (⟨2, ![400, 128]⟩ : Shape).Idx := ix2 (n0 := 400) (n1 := 128) ⟨(j 0).val - 400 * (w + 32 * a), by omega⟩ (j 1)
  have hy0 : (y 0).val = (j 0).val - 400 * (w + 32 * a) := rfl
  rw [← View.writes_singleton, View.read_writes_cons_unit_of_mem v g inb pay [] j y ho (by
    intro i
    match i with
    | ⟨0, _⟩ => show (j 0).val = 400 * (w + 32 * a) + (y 0).val; omega
    | ⟨1, _⟩ => show (j 1).val = 0 + (j 1).val; omega)]
  have hj0 : (j 0).val < 100000 := by omega
  rw [hpay y (ix2 (n0 := 100000) (n1 := 128) ⟨(j 0).val, hj0⟩ (j 1)) (by
    subst ho
    intro i
    match i with
    | ⟨0, _⟩ => show (j 0).val = 400 * (w + 32 * a) + (y 0).val; omega
    | ⟨1, _⟩ => show (j 1).val = 0 + (j 1).val; omega)]
  have hp : pieceNo j / 32 < a + 1 := by unfold pieceNo; rw [if_pos hj0]; omega
  unfold stage
  rw [if_pos hj0, if_pos hp]
  unfold target
  rw [dif_pos hj0]

end Block

/-! ## One line pooled -/

section Line

variable {w a b : ℕ} {off : Fin 2 → ℕ} (ho : off = ![40 * (w + 32 * b) + 100000, 0]) (hw : w < 32) (hlt : w + 32 * b < 2500)
  (inb : ∀ i, off i + (![40, 128] : Fin 2 → ℕ) i ≤ Res.size i)
include ho

/-- The rows of a line are those from its offset on. -/
theorem mem_line {j : Res.Idx} : j ∈ (Rect.unit (s := Res) off ![40, 128] inb).set
    ↔ 40 * (w + 32 * b) + 100000 ≤ (j 0).val ∧ (j 0).val < 40 * (w + 32 * b) + 100000 + 40 := by
  subst ho
  rw [Rect.mem_set_unit]
  constructor
  · intro h; exact h 0
  · intro h i
    have h1 : (j 1).val < 128 := (j 1).isLt
    match i with
    | ⟨0, _⟩ => exact h
    | ⟨1, _⟩ => show 0 ≤ (j 1).val ∧ (j 1).val < 0 + 128; omega

include hw

/-- A tile's line is among its rows. -/
theorem line_sub : (Rect.unit (s := Res) off ![40, 128] inb).set ⊆ own w := by
  intro j hj
  have h := (mem_line ho inb).mp hj
  rw [mem_own]
  unfold pieceNo
  split <;> omega

/-- Off the line a tile's rows are as before. -/
theorem line_off (x : Tab.Idx → Elt F .f32) (p : Lst.Idx → BitVec 32) (f : Res.Idx → Elt F .f32) {j : Res.Idx}
    (hj : j ∈ own w \ (Rect.unit (s := Res) off ![40, 128] inb).set) : stage x p f a b j = stage x p f a (b + 1) j := by
  rw [Finset.mem_sdiff, mem_line ho inb, mem_own] at hj
  obtain ⟨h1, h2⟩ := hj
  unfold stage
  congr 1
  unfold pieceNo at *
  simp only [eq_iff_iff]
  split <;> simp_all <;> omega

include hlt

/-- On the line they are the pooled pairs. -/
theorem line_on (x : Tab.Idx → Elt F .f32) (p : Lst.Idx → BitVec 32) (f : Res.Idx → Elt F .f32)
    (v : View sig κ sp Res .f32) (g : v.ty.Contents (Elt F)) (G : Work.Idx → Elt F .f32)
    (hG : ∀ (k : Fin 80) (l : Fin 128), G (ix2 (n0 := 80) (n1 := 128) k l)
      = row x (p (ix2 (n0 := 2500) (n1 := 80) ⟨w + 32 * b, hlt⟩ k)) l)
    (pay : (Rect.unit (s := Res) off ![40, 128] inb).shape.Idx → Elt F .f32)
    (hpay : ∀ (y : (⟨2, ![40, 128]⟩ : Shape).Idx) (z : Work.Idx), (∀ i, (z i).val = (y i).val) → pay y = mid G 40 0 z)
    {j : Res.Idx} (hj : j ∈ (Rect.unit (s := Res) off ![40, 128] inb).set) :
    v.read (Elt F) ((v.slice (Rect.unit (s := Res) off ![40, 128] inb)).write (Elt F) g pay Finset.univ) j = stage x p f a (b + 1) j := by
  have h := (mem_line ho inb).mp hj
  have h1 : (j 1).val < 128 := (j 1).isLt
  obtain ⟨r, hr⟩ : ∃ r, (j 0).val = 40 * (w + 32 * b) + 100000 + r := ⟨_, (Nat.add_sub_cancel' h.1).symm⟩
  have hr40 : r < 40 := by omega
  let y : (⟨2, ![40, 128]⟩ : Shape).Idx := ix2 (n0 := 40) (n1 := 128) ⟨r, hr40⟩ (j 1)
  have hy0 : (y 0).val = r := rfl
  have hy1 : (y 1).val = (j 1).val := rfl
  rw [← View.writes_singleton, View.read_writes_cons_unit_of_mem v g inb pay [] j y ho (by
    intro i
    match i with
    | ⟨0, _⟩ => show (j 0).val = 40 * (w + 32 * b) + 100000 + (y 0).val; omega
    | ⟨1, _⟩ => show (j 1).val = 0 + (j 1).val; omega)]
  have hr80 : r < 80 := Nat.lt_of_lt_of_le hr40 (by decide)
  have hz : ∀ i : Fin 2, (ix2 (n0 := 80) (n1 := 128) ⟨r, hr80⟩ (j 1) i).val = (y i).val := by
    intro i
    match i with
    | ⟨0, _⟩ => rfl
    | ⟨1, _⟩ => rfl
  rw [hpay y (ix2 (n0 := 80) (n1 := 128) ⟨r, hr80⟩ (j 1)) hz]
  have hj0 : ¬ (j 0).val < 100000 := by omega
  have hp : pieceNo j / 32 < b + 1 := by unfold pieceNo; rw [if_neg hj0]; omega
  have hc : ((j 0).val - 100000) / 40 = w + 32 * b := by omega
  have hm : ((j 0).val - 100000) % 40 = r := by omega
  have hs : stage x p f a (b + 1) j = target x p j := by
    unfold stage
    rw [if_neg hj0, if_pos hp]
  rw [hs]
  unfold target
  rw [dif_neg hj0]
  simp only [hc, hm, ← hG]
  unfold mid
  rw [dif_pos (show 2 * r + 1 < 80 ∧ (r < 40 ∨ (r = 40 ∧ (j 1).val < 16 * 0)) from ⟨by omega, Or.inl hr40⟩)]
  exact congrArg₂ mean (hG ⟨2 * r, by omega⟩ (j 1)) (hG ⟨2 * r + 1, by omega⟩ (j 1))

end Line

/-! ## One line gathered -/

/-- A line of the index list, fetched through the slice that names it, word by word. -/
theorem line_read (v : View sig κ sp Lst .i32) (f : v.ty.Contents (Elt F)) {off : Fin 2 → ℕ} {n : ℕ} (hn : n < 2500) (ho : off = ![n, 0])
    (inb : ∀ i, off i + (![1, 80] : Fin 2 → ℕ) i ≤ Lst.size i)
    (h : (⟨1, ![80]⟩ : Shape).numel = (Rect.unit (s := Lst) off ![1, 80] inb).shape.numel) (k : Fin 80) :
    ((v.slice (Rect.unit (s := Lst) off ![1, 80] inb)).reshape ⟨1, ![80]⟩ h).read (Elt F) f (ix1 k)
      = v.read (Elt F) f (ix2 (n0 := 2500) (n1 := 80) ⟨n, hn⟩ k) := by
  have e : Shape.reshapeEquiv (s := ⟨2, ![1, 80]⟩) h (ix1 k) = ix2 (n0 := 1) (n1 := 80) ⟨0, by omega⟩ k :=
    Shape.reshapeEquiv_eq_of_rowMajor _ (by
      rw [Shape.rowMajor_val_one, Shape.rowMajor_val_two]
      show 0 * 80 + k.val = k.val
      omega)
  refine (congrArg ((v.slice (Rect.unit (s := Lst) off ![1, 80] inb)).read (Elt F) f) e).trans ?_
  refine read_unit v f inb _ _ fun i => ?_
  subst ho
  match i with
  | ⟨0, _⟩ => rfl
  | ⟨1, _⟩ => show k.val = 0 + k.val; omega

/-- The rows of the table that a line names. -/
def gath (x : Tab.Idx → Elt F .f32) (p : Lst.Idx → BitVec 32) (n : Fin 2500) (y : Work.Idx) : Elt F .f32 :=
  row x (p (ix2 (n0 := 2500) (n1 := 80) n (y 0))) (y 1)

/-- What the gather lands is the rows the line names. -/
theorem gathered (hg : Tab.Gathers 0 Work) (x : Tab.Idx → Elt F .f32) (p : Lst.Idx → BitVec 32) (n : Fin 2500)
    (idx : (⟨1, ![80]⟩ : Shape).Idx → Elt F .i32) (hn : (⟨1, ![80]⟩ : Shape).numel = Work.size hg.axis')
    (hin : ∀ k, (idx k).toNat < Tab.size hg.axis) (hl : ∀ k : Fin 80, idx (ix1 k) = p (ix2 (n0 := 2500) (n1 := 80) n k)) :
    SparseCore.gatherPayload hg x (SparseCore.rows idx hn hin) = gath x p n := by
  funext y
  have hk : (⟨1, ![80]⟩ : Shape).rowMajor.symm ((y hg.axis').cast hn.symm) = ix1 (n := 80) (y 0) :=
    (Equiv.symm_apply_eq _).mpr (Fin.ext (Shape.rowMajor_val_one (d := ![80]) (ix1 (n := 80) (y 0))).symm)
  have hr : (SparseCore.rows idx hn hin (y hg.axis')).val = (p (ix2 (n0 := 2500) (n1 := 80) n (y 0))).toNat := by
    show (idx ((⟨1, ![80]⟩ : Shape).rowMajor.symm ((y hg.axis').cast hn.symm))).toNat = _
    rw [hk]
    exact congrArg BitVec.toNat (hl (y 0))
  have hlt : (p (ix2 (n0 := 2500) (n1 := 80) n (y 0))).toNat < 100000 := hr ▸ (SparseCore.rows idx hn hin (y hg.axis')).isLt
  unfold SparseCore.gatherPayload gath row
  congr 1
  funext i
  match i with
  | ⟨0, _⟩ =>
    refine (Shape.Gathers.idx_axis hg _ y).trans (Fin.ext ?_)
    rw [hr]
    exact (Nat.mod_eq_of_lt hlt).symm
  | ⟨1, h1⟩ =>
    exact Fin.ext (Shape.Gathers.idx_of_ne hg _ y ⟨1, h1⟩ Nat.one_ne_zero)

end Cert.Proof.Moves
-- ==== Proof.IdealSetup.lean ====
/-
  The program as the launch theorem sees it: its configuration, its threads' ghost state, its arrays and buffers by name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Target
public import proofs.«01_k».proof.Proof.Moves

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
/-- The SparseCore configuration of the program. -/
abbrev K : SparseCore.Cfg τ sig (ΛP (F := F)) 1 := sc (F := F)
/-- The call runs on sixteen vector subcores of a SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and not scoped where they are used, and no SparseCore's buffer is shared with its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, and beside it the transfers' counters. -/
abbrev UH : Type := URounds (GSem nD τ sig) ℕ
abbrev UU : Type := UH × Counters

abbrev EH : Emb UH (MT nD τ sig (HIx 1) (Elt F) ℕ UU ℕ) := embL

abbrev xLoc (d : Dev nD) : Loc nD τ sig := (SparseCore.T d).loc main_arg0
abbrev aLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v1

/-- The SparseCore and the vector subcore of a tile. -/
abbrev cV (L : grid0.Coords) : Fin τ.nSC := (L 0).castLE hcore0
abbrev jV (L : grid0.Coords) : Fin τ.nSub := (L 1).castLE hsub0

/-- A tile's number. -/
abbrev wid (L : grid0.Coords) : ℕ := 2 * (L 1).val + (L 0).val

/-- The first 26 tiles copy 8 blocks each, the other six 7. -/
theorem trips_t1 : ∀ L : grid0.Coords, (k0_t1_loop L).trips = if wid L < 26 then 8 else 7 := by decide +kernel
/-- The copy loop's remainder makes no trip. -/
theorem trips_t2 : ∀ L : grid0.Coords, (k0_t2_loop L).trips = 0 := by decide +kernel
/-- The first 4 tiles pool 79 lines each, the others 78. -/
theorem trips_t3 : ∀ L : grid0.Coords, (k0_t3_loop L).trips = if wid L < 4 then 79 else 78 := by decide +kernel
/-- A line's pooling loop makes forty trips. -/
theorem trips_t4 : k0_t4_loop.trips = 40 := by decide +kernel
/-- The line loop's remainder makes no trip. -/
theorem trips_t5 : ∀ L : grid0.Coords, (k0_t5_loop L).trips = 0 := by decide +kernel

/-- A tile's SparseCore is one of two. -/
theorem core_lt (L : grid0.Coords) : (L 0).val < 2 := (L 0).isLt
/-- A tile's subcore is one of sixteen. -/
theorem sub_lt (L : grid0.Coords) : (L 1).val < 16 := (L 1).isLt

end Cert.Proof.Ideal
-- ==== Proof.IdealPool.lean ====
/-
  The pooling loop of one line: forty trips, trip `t` putting half the sum of working rows `2 t` and `2 t + 1` into row `t`.
-/
module

public import proofs.«01_k».proof.Proof.IdealSetup

@[expose] public section

noncomputable section

namespace Cert.Proof.Ideal

open Cert.KernelIdeal Cert.KernelIdeal.Gen Cert.Proof.Target Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xV" => (Memref.whole main_arg0_scv : Memref sig Kind.scVector Space.hbm S100000x128 EltTy.f32)
local notation "pV" => (Memref.whole main_v0_scv : Memref sig Kind.scVector Space.hbm S2500x80 EltTy.i32)
local notation "oV" => (Memref.whole main_v1_scv : Memref sig Kind.scVector Space.hbm S200000x128 EltTy.f32)
local notation "iV" => (Memref.whole cc0_scratch0 : Memref sig Kind.scVector Space.vmem S80 EltTy.i32)
local notation "gV" => (Memref.whole cc0_scratch1 : Memref sig Kind.scVector Space.vmem S80x128 EltTy.f32)
local notation "bV" => (Memref.whole cc0_scratch2 : Memref sig Kind.scVector Space.vmem S400x128 EltTy.f32)

/-- A trip of the pooling loop is one of forty. -/
theorem trip_lt (k : Fin k0_t4_loop.trips) : k.val < 40 := trips_t4 ▸ k.isLt

/-- A group of sixteen entries as a trip finds it. -/
abbrev ld (G : Work.Idx → Elt F .f32) (k : Fin k0_t4_loop.trips) {off : Fin 2 → ℕ} (inb : ∀ a, off a + S1x16.size a ≤ S80x128.size a) :
    Vec F S1x16 .f32 :=
  (gV).view.readAt (Elt F) (Rect.unit (s := S80x128) off S1x16.size inb).toLoadRect (mid G k.val 0)

/-- The eight stores of trip `k` pool the pair `k`. -/
theorem pool_trip (G : Work.Idx → Elt F .f32) (k : Fin k0_t4_loop.trips) :
    (gV).view.writes (Elt F) (mid G k.val 0)
      [⟨Rect.unit (s := S80x128) (k0_off29 k) S1x16.size (k0_off29_inb k), k0_pay1 (k0_pay11 (ld G k (k0_off27_inb k))) (ld G k (k0_off28_inb k))⟩,
        ⟨Rect.unit (s := S80x128) (k0_off26 k) S1x16.size (k0_off26_inb k), k0_pay10 (ld G k (k0_off24_inb k)) (ld G k (k0_off25_inb k))⟩,
        ⟨Rect.unit (s := S80x128) (k0_off23 k) S1x16.size (k0_off23_inb k), k0_pay9 (ld G k (k0_off21_inb k)) (ld G k (k0_off22_inb k))⟩,
        ⟨Rect.unit (s := S80x128) (k0_off20 k) S1x16.size (k0_off20_inb k), k0_pay8 (ld G k (k0_off18_inb k)) (ld G k (k0_off19_inb k))⟩,
        ⟨Rect.unit (s := S80x128) (k0_off17 k) S1x16.size (k0_off17_inb k), k0_pay7 (ld G k (k0_off15_inb k)) (ld G k (k0_off16_inb k))⟩,
        ⟨Rect.unit (s := S80x128) (k0_off14 k) S1x16.size (k0_off14_inb k), k0_pay6 (k0_pay5 (ld G k (k0_off12_inb k))) (ld G k (k0_off13_inb k))⟩,
        ⟨Rect.unit (s := S80x128) (k0_off11 k) S1x16.size (k0_off11_inb k), k0_pay4 (ld G k (k0_off9_inb k)) (ld G k (k0_off10_inb k))⟩,
        ⟨Rect.unit (s := S80x128) (k0_off8 k) S1x16.size (k0_off8_inb k), k0_pay3 (ld G k (k0_off6_inb k)) (ld G k (k0_off7_inb k))⟩]
      = mid G (k.val + 1) 0 := by
  have h0 : (gV).view.read (Elt F) (mid G k.val 0) = mid G k.val 0 := rfl
  have h1 := pool_step (gV).view G _ _ (trip_lt k) rfl h0 (k0_off6_eq k) (k0_off7_eq k) (k0_off8_eq k) (k0_off6_inb k)
    (k0_off7_inb k) (k0_off8_inb k) (k0_pay3 (ld G k (k0_off6_inb k)) (ld G k (k0_off7_inb k)))
    (mean_apply _ _ shapeCasts_S1x16_S16 shapeCasts_S16_S1x16)
  have h2 := pool_step (gV).view G _ _ (trip_lt k) rfl h1 (k0_off9_eq k) (k0_off10_eq k) (k0_off11_eq k) (k0_off9_inb k)
    (k0_off10_inb k) (k0_off11_inb k) (k0_pay4 (ld G k (k0_off9_inb k)) (ld G k (k0_off10_inb k)))
    (mean_apply _ _ shapeCasts_S1x16_S16 shapeCasts_S16_S1x16)
  have h3 := pool_step (gV).view G _ _ (trip_lt k) rfl h2 (k0_off12_eq k) (k0_off13_eq k) (k0_off14_eq k) (k0_off12_inb k)
    (k0_off13_inb k) (k0_off14_inb k) (k0_pay6 (k0_pay5 (ld G k (k0_off12_inb k))) (ld G k (k0_off13_inb k)))
    (mean_apply _ _ shapeCasts_S1x16_S16 shapeCasts_S16_S1x16)
  have h4 := pool_step (gV).view G _ _ (trip_lt k) rfl h3 (k0_off15_eq k) (k0_off16_eq k) (k0_off17_eq k) (k0_off15_inb k)
    (k0_off16_inb k) (k0_off17_inb k) (k0_pay7 (ld G k (k0_off15_inb k)) (ld G k (k0_off16_inb k)))
    (mean_apply _ _ shapeCasts_S1x16_S16 shapeCasts_S16_S1x16)
  have h5 := pool_step (gV).view G _ _ (trip_lt k) rfl h4 (k0_off18_eq k) (k0_off19_eq k) (k0_off20_eq k) (k0_off18_inb k)
    (k0_off19_inb k) (k0_off20_inb k) (k0_pay8 (ld G k (k0_off18_inb k)) (ld G k (k0_off19_inb k)))
    (mean_apply _ _ shapeCasts_S1x16_S16 shapeCasts_S16_S1x16)
  have h6 := pool_step (gV).view G _ _ (trip_lt k) rfl h5 (k0_off21_eq k) (k0_off22_eq k) (k0_off23_eq k) (k0_off21_inb k)
    (k0_off22_inb k) (k0_off23_inb k) (k0_pay9 (ld G k (k0_off21_inb k)) (ld G k (k0_off22_inb k)))
    (mean_apply _ _ shapeCasts_S1x16_S16 shapeCasts_S16_S1x16)
  have h7 := pool_step (gV).view G _ _ (trip_lt k) rfl h6 (k0_off24_eq k) (k0_off25_eq k) (k0_off26_eq k) (k0_off24_inb k)
    (k0_off25_inb k) (k0_off26_inb k) (k0_pay10 (ld G k (k0_off24_inb k)) (ld G k (k0_off25_inb k)))
    (mean_apply _ _ shapeCasts_S1x16_S16 shapeCasts_S16_S1x16)
  have h8 := pool_step (gV).view G _ _ (trip_lt k) rfl h7 (k0_off27_eq k) (k0_off28_eq k) (k0_off29_eq k) (k0_off27_inb k)
    (k0_off28_inb k) (k0_off29_inb k) (k0_pay1 (k0_pay11 (ld G k (k0_off27_inb k))) (ld G k (k0_off28_inb k)))
    (mean_apply _ _ shapeCasts_S1x16_S16 shapeCasts_S16_S1x16)
  exact h8.trans (mid_eight G k.val)

/-- The working rows before trip `n`. -/
def poolInv (d : Dev nD) (L : grid0.Coords) (G : Work.Idx → Elt F .f32) (n : Nat) (_ : PUnit.{1}) : sProp 𝕄 :=
  iprop((gV).view.loc (V d (cV L) (jV L)) ↦{fullShare} (mid G n 0))

/-- The pooling loop of one line: from the gathered rows `G` it ends with all forty pairs pooled, the pair `t` in row `t`. -/
theorem pool_loop (d : Dev nD) (L : grid0.Coords) (G : Work.Idx → Elt F .f32) :
    (iprop((gV).view.loc (V d (cV L) (jV L)) ↦{fullShare} G) : sProp 𝕄)
      ⊢ wp frame (wpE (defs₀ (F := F)) 𝒱₀ (V d (cV L) (jV L)) none) Set.univ
        (Scf.Loop.for k0_t4_loop k0_t4_ok ⟨⟩ (k0_t4_body L xV (Memref.isWhole_whole _) pV (Memref.isWhole_whole _) oV (Memref.isWhole_whole _)
          iV (Memref.isWhole_whole _) gV (Memref.isWhole_whole _) bV (Memref.isWhole_whole _) cc0_scratch3
          cc0_scoped0 cc0_scoped1 cc0_scoped2 cc0_scoped3 cc0_scoped4 cc0_scoped5 cc0_scoped6 cc0_scoped7))
        fun _ => iprop((gV).view.loc (V d (cV L) (jV L)) ↦{fullShare} (mid G 40 0)) := by
  iintro HG
  sl_for (poolInv d L G) $$ [HG]
  case region =>
    intro k _
    unfold poolInv
    iintro HG
    sl_exec
    sl_step
    rw [← pool_trip G k]
    iexact HG
  · unfold poolInv
    rw [mid_zero]
    isplitl [HG]
    · iexact HG
    iintro %_ HI
    rw [show Scf.trips k0_t4_loop.lb k0_t4_loop.ub k0_t4_loop.st = 40 from trips_t4]
    iexact HI

end Cert.Proof.Ideal
-- ==== Proof.IdealCopy.lean ====
/-
  The copy of one tile's blocks of the table: trip `t` brings block `w + 32 t` in and writes it out again.
-/
module

public import proofs.«01_k».proof.Proof.IdealPool

@[expose] public section

noncomputable section

namespace Cert.Proof.Ideal

open Cert.KernelIdeal Cert.KernelIdeal.Gen Cert.Proof.Target Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xV" => (Memref.whole main_arg0_scv : Memref sig Kind.scVector Space.hbm S100000x128 EltTy.f32)
local notation "pV" => (Memref.whole main_v0_scv : Memref sig Kind.scVector Space.hbm S2500x80 EltTy.i32)
local notation "oV" => (Memref.whole main_v1_scv : Memref sig Kind.scVector Space.hbm S200000x128 EltTy.f32)
local notation "iV" => (Memref.whole cc0_scratch0 : Memref sig Kind.scVector Space.vmem S80 EltTy.i32)
local notation "gV" => (Memref.whole cc0_scratch1 : Memref sig Kind.scVector Space.vmem S80x128 EltTy.f32)
local notation "bV" => (Memref.whole cc0_scratch2 : Memref sig Kind.scVector Space.vmem S400x128 EltTy.f32)

omit [FloatOps F] in
/-- A part written and the rest left alone are the whole again, at any contents that agree with both. -/
theorem rejoin {ℓ : Loc nD τ sig} {I S : Finset (Idx ℓ)} {q : PosShare TreeShare} {g h t : Buf (Elt F) ℓ} (hIS : I ⊆ S)
    (h1 : ∀ i ∈ I, g i = t i) (h2 : ∀ i ∈ S \ I, h i = t i) :
    iprop((ℓ ↦[I]{q} g) ∗ ℓ ↦[S \ I]{q} h) ⊢ (ℓ ↦[S]{q} t : sProp 𝕄) := by
  rw [pointsTo_congr h1, pointsTo_congr h2]
  exact (pointsTo_split_subset hIS).2

/-- A tile's number is below 32. -/
theorem wid_lt (L : grid0.Coords) : wid L < 32 := by
  have hL0 := core_lt L
  have hL1 := sub_lt L
  show 2 * (L 1).val + (L 0).val < 32
  omega

/-- A tile's blocks are among the table's 250. -/
theorem block_lt (L : grid0.Coords) (k : Fin (k0_t1_loop L).trips) : wid L + 32 * k.val < 250 := by
  have hk : k.val < (if wid L < 26 then 8 else 7) := trips_t1 L ▸ k.isLt
  have hw := wid_lt L
  split at hk <;> omega

/-- Copy trip `k` writes from row `400 (w + 32 k)` on, column 0. -/
theorem off2_eq (L : grid0.Coords) (k : Fin (k0_t1_loop L).trips) : k0_off2 L k = ![400 * (wid L + 32 * k.val), 0] := by
  rw [k0_off2_eq]
  congr 1
  show _ = 400 * (2 * (L 1).val + (L 0).val + 32 * k.val)
  omega

/-- The rows that copy trip `k` writes are the tile's own. -/
theorem block_in (L : grid0.Coords) (k : Fin (k0_t1_loop L).trips) :
    (Rect.unit (s := Res) (k0_off2 L k) S400x128.size (k0_off2_inb L k)).set ⊆ own (wid L) :=
  block_sub (off2_eq L k) (wid_lt L) (block_lt L k) (k0_off2_inb L k)

/-- The rows a slice of the result names are its rectangle's. -/
theorem oSet (r : Rect S200000x128) (h : ∀ a, r.stride a = 1) : ((oV).slice r h).view.set = r.set := View.set_slice_whole _ _

/-- A block that came in from the table and went out again is `k`'s, and with it the tile has one block more. -/
theorem block_back (d : Dev nD) (L : grid0.Coords) (X : Tab.Idx → Elt F .f32) (p : Lst.Idx → BitVec 32)
    (f : Res.Idx → Elt F .f32) (k : Fin (k0_t1_loop L).trips) (pay : S400x128.Idx → Elt F .f32)
    (hpay : ∀ (y : S400x128.Idx) (z : Tab.Idx), (∀ i, (z i).val = k0_off1 L k i + (y i).val) → pay y = X z) :
    iprop((((oV).slice (Rect.unit (s := S200000x128) (k0_off2 L k) S400x128.size (k0_off2_inb L k)) (fun _ => rfl)).view.loc (V d (cV L) (jV L))
        ↦[((oV).slice (Rect.unit (s := S200000x128) (k0_off2 L k) S400x128.size (k0_off2_inb L k)) (fun _ => rfl)).view.set]{fullShare}
          (((oV).slice (Rect.unit (s := S200000x128) (k0_off2 L k) S400x128.size (k0_off2_inb L k)) (fun _ => rfl)).view.writes (Elt F)
            (stage X p f k.val 0) [⟨Rect.whole S400x128, pay⟩]))
      ∗ (oV).view.loc (V d (cV L) (jV L)) ↦[own (wid L) \ (Rect.unit (s := Res) (k0_off2 L k) S400x128.size (k0_off2_inb L k)).set]{fullShare}
          (stage X p f k.val 0))
      ⊢ ((oV).view.loc (V d (cV L) (jV L)) ↦[own (wid L)]{fullShare} (stage X p f (k.val + 1) 0) : sProp 𝕄) := by
  rw [oSet]
  refine rejoin (block_in L k) (fun j hj => (congrFun (View.write_univ_eq_writes_whole
    ((oV).slice (Rect.unit (s := S200000x128) (k0_off2 L k) S400x128.size (k0_off2_inb L k)) (fun _ => rfl)).view
    (stage X p f k.val 0) [] pay) j).symm.trans ?_) (fun j hj => block_off (off2_eq L k) (wid_lt L) (block_lt L k) (k0_off2_inb L k) X p f hj)
  refine block_on (off2_eq L k) (wid_lt L) (block_lt L k) (k0_off2_inb L k) X p f (oV).view _ pay (fun y z hyz => hpay y z fun i => ?_) hj
  rw [hyz, k0_off1_eq, k0_off2_eq]

/-- What a tile holds before copy trip `n`: its share of the table, its rows of the result with `n` blocks copied, its
    buffer, its two semaphores at zero and what it owes. -/
def copyInv (d : Dev nD) (L : grid0.Coords) (O : CellTallies nD τ sig (HIx 1)) (W : Waits sig (HIx 1)) (q : PosShare TreeShare)
    (X : Tab.Idx → Elt F .f32) (p : Lst.Idx → BitVec 32) (f : Res.Idx → Elt F .f32) (n : Nat) (_ : PUnit.{1}) : sProp 𝕄 :=
  iprop(Transfers.MayWaits (V d (cV L) (jV L)) (none : HIx 1) O
    ∗ ((xV).view.loc (V d (cV L) (jV L)) ↦{q} X)
    ∗ ((oV).view.loc (V d (cV L) (jV L)) ↦[own (wid L)]{fullShare} (stage X p f n 0))
    ∗ (∃ g, (bV).view.loc (V d (cV L) (jV L)) ↦{fullShare} g)
    ∗ semVal (V d (cV L) (jV L), SemLoc.dma cc0_scoped0.sem) 0 ∗ semVal (V d (cV L) (jV L), SemLoc.dma cc0_scoped1.sem) 0
    ∗ ∃ W', ⌜∀ i ∈ W', i ∈ W ∨ i.2 = none⌝ ∗ owes (V d (cV L) (jV L)) O W')

/-- The copy loop: a tile that starts it with no block copied ends it with all of its blocks copied, 8 of them for the first 26 tiles and 7 for the rest. -/
theorem copy_loop (d : Dev nD) (L : grid0.Coords) (O : CellTallies nD τ sig (HIx 1)) (W : Waits sig (HIx 1)) (q : PosShare TreeShare)
    (X : Tab.Idx → Elt F .f32) (p : Lst.Idx → BitVec 32) (f : Res.Idx → Elt F .f32) :
    copyInv d L O W q X p f 0 ⟨⟩
      ⊢ wp frame (wpE (defs₀ (F := F)) 𝒱₀ (V d (cV L) (jV L)) none) Set.univ
        (Scf.Loop.for (k0_t1_loop L) (k0_t1_ok L) ⟨⟩ (k0_t1_body L xV (Memref.isWhole_whole _) pV (Memref.isWhole_whole _) oV (Memref.isWhole_whole _)
          iV (Memref.isWhole_whole _) gV (Memref.isWhole_whole _) bV (Memref.isWhole_whole _) cc0_scratch3
          cc0_scoped0 cc0_scoped1 cc0_scoped2 cc0_scoped3 cc0_scoped4 cc0_scoped5 cc0_scoped6 cc0_scoped7))
        fun _ => copyInv d L O W q X p f (if wid L < 26 then 8 else 7) ⟨⟩ := by
  iintro HI
  sl_for (copyInv d L O W q X p f) $$ [HI]
  case region =>
    intro k _
    unfold copyInv
    iintro ⟨Hmw, Hx, Ho, ⟨%g, Hb⟩, Hs0, Hs1, %W', %hW', HO⟩
    ihave Ho2 := (pointsTo_split_subset (block_in L k)).1 $$ Ho
    icases Ho2 with ⟨Hc, Hr⟩
    ihave Hc' := (show ((oV).view.loc (V d (cV L) (jV L)) ↦[(Rect.unit (s := Res) (k0_off2 L k) S400x128.size (k0_off2_inb L k)).set]{fullShare} (stage X p f k.val 0) : sProp 𝕄)
      ⊢ (((oV).slice (Rect.unit (s := S200000x128) (k0_off2 L k) S400x128.size (k0_off2_inb L k)) (fun _ => rfl)).view.loc (V d (cV L) (jV L))
        ↦[((oV).slice (Rect.unit (s := S200000x128) (k0_off2 L k) S400x128.size (k0_off2_inb L k)) (fun _ => rfl)).view.set]{fullShare} (stage X p f k.val 0) : sProp 𝕄)
      from Entails.of_eq (by rw [oSet])) $$ Hc
    sl_exec (disch := exact View.amount_pos _ _ (show 0 < S400x128.numel by decide))
    sl_step
    ihave Ho := (block_back d L X p f k
      (((bV).view.read (Elt F) ((bV).view.write (Elt F) g (((xV).slice (Rect.unit (s := S100000x128) (k0_off1 L k) S400x128.size (k0_off1_inb L k))
        (fun _ => rfl)).view.read (Elt F) X) Finset.univ)))
      (fun y z hyz => by rw [View.write_whole_univ]; exact read_unit (xV).view X (k0_off1_inb L k) y z hyz)) $$ [Hc' Hr]
    · isplitl [Hc']
      · iexact Hc'
      · iexact Hr
    isplitl [Hmw]; · iexact Hmw
    isplitl [Hx]; · iexact Hx
    isplitl [Ho]; · iexact Ho
    isplitl [Hb]; · iexists _; iexact Hb
    isplitl [Hs0]; · iexact Hs0
    isplitl [Hs1]; · iexact Hs1
    iexists (insert (SemLoc.dma cc0_scoped1.sem, (none : HIx 1)) (insert (SemLoc.dma cc0_scoped0.sem, (none : HIx 1)) W'))
    isplitr
    · ipureintro
      intro i hi
      rcases Finset.mem_insert.mp hi with rfl | hi
      · exact .inr rfl
      rcases Finset.mem_insert.mp hi with rfl | hi
      · exact .inr rfl
      exact hW' i hi
    · iexact HO
  · isplitl [HI]
    · iexact HI
    iintro %_ HI
    rw [show Scf.trips (k0_t1_loop L).lb (k0_t1_loop L).ub (k0_t1_loop L).st = _ from trips_t1 L]
    iexact HI

end Cert.Proof.Ideal
-- ==== Proof.IdealLine.lean ====
/-
  The pooled lines of one tile: trip `t` fetches line `w + 32 t` of the index list, gathers the rows it names, halves
  them pairwise and writes the forty means out.
-/
module

public import proofs.«01_k».proof.Proof.IdealCopy

@[expose] public section

noncomputable section

namespace Cert.Proof.Ideal

open Cert.KernelIdeal Cert.KernelIdeal.Gen Cert.Proof.Target Cert.Proof.Moves

open Idealize.ShloMosaic.ValueIdx (ix1 ix2)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xV" => (Memref.whole main_arg0_scv : Memref sig Kind.scVector Space.hbm S100000x128 EltTy.f32)
local notation "pV" => (Memref.whole main_v0_scv : Memref sig Kind.scVector Space.hbm S2500x80 EltTy.i32)
local notation "oV" => (Memref.whole main_v1_scv : Memref sig Kind.scVector Space.hbm S200000x128 EltTy.f32)
local notation "iV" => (Memref.whole cc0_scratch0 : Memref sig Kind.scVector Space.vmem S80 EltTy.i32)
local notation "gV" => (Memref.whole cc0_scratch1 : Memref sig Kind.scVector Space.vmem S80x128 EltTy.f32)
local notation "bV" => (Memref.whole cc0_scratch2 : Memref sig Kind.scVector Space.vmem S400x128 EltTy.f32)

/-- The number of the line a trip works on. -/
theorem line_lt (L : grid0.Coords) (k : Fin (k0_t3_loop L).trips) : wid L + 32 * k.val < 2500 := by
  have hk : k.val < if wid L < 4 then 79 else 78 := lt_of_lt_of_eq k.isLt (trips_t3 L)
  have hw := wid_lt L
  split_ifs at hk <;> omega

/-- Where a trip reads its line. -/
theorem off5_eq (L : grid0.Coords) (k : Fin (k0_t3_loop L).trips) : k0_off5 L k = ![wid L + 32 * k.val, 0] := by
  rw [k0_off5_eq, wid]

/-- Where a trip writes its forty means. -/
theorem off30_eq (L : grid0.Coords) (k : Fin (k0_t3_loop L).trips) : k0_off30 L k = ![40 * (wid L + 32 * k.val) + 100000, 0] := by
  have e : 80 * (L 1).val + 40 * (L 0).val + 1280 * k.val + 100000 = 40 * (wid L + 32 * k.val) + 100000 := by
    unfold wid
    omega
  rw [k0_off30_eq, e]

/-- The line a trip fetches, as its slice reads it. -/
def fetched (L : grid0.Coords) (p : Lst.Idx → BitVec 32) (k : Fin (k0_t3_loop L).trips) : S80.Idx → Elt F .i32 :=
  (((pV).slice (Rect.unit (s := S2500x80) (k0_off5 L k) S1x80.size (k0_off5_inb L k)) (fun _ => rfl)).squeeze S80 squeezes_S1x80_S80).view.read (Elt F) p

/-- Its words are the words of that line. -/
theorem fetched_apply (L : grid0.Coords) (p : Lst.Idx → BitVec 32) (k : Fin (k0_t3_loop L).trips) (l : Fin 80) :
    fetched (F := F) L p k (ix1 l) = p (ix2 (n0 := 2500) (n1 := 80) ⟨wid L + 32 * k.val, line_lt L k⟩ l) :=
  line_read (F := F) (pV).view p (line_lt L k) (off5_eq L k) (k0_off5_inb L k) _ l

/-- All of its words name rows of the table when every word of the list does. -/
theorem fetched_lt (L : grid0.Coords) (p : Lst.Idx → BitVec 32) (hP : ∀ j, (p j).toNat < 100000) (k : Fin (k0_t3_loop L).trips) (l : S80.Idx) :
    (fetched (F := F) L p k l).toNat < 100000 := hP _

/-- The rows one trip writes are rows of the tile. -/
theorem line_in (L : grid0.Coords) (k : Fin (k0_t3_loop L).trips) :
    (Rect.unit (s := Res) (k0_off30 L k) S40x128.size (k0_off30_inb L k)).set ⊆ own (wid L) :=
  line_sub (off30_eq L k) (wid_lt L) (k0_off30_inb L k)

/-- A line's means landed and the other rows of the tile are the tile's rows with one more line done. -/
theorem line_back (d : Dev nD) (L : grid0.Coords) (X : Tab.Idx → Elt F .f32) (p : Lst.Idx → BitVec 32)
    (f : Res.Idx → Elt F .f32) (k : Fin (k0_t3_loop L).trips) (pay : S40x128.Idx → Elt F .f32)
    (hpay : ∀ (y : S40x128.Idx) (z : Work.Idx), (∀ i, (z i).val = (y i).val) →
      pay y = mid (gath X p ⟨wid L + 32 * k.val, line_lt L k⟩) 40 0 z) :
    iprop((((oV).slice (Rect.unit (s := S200000x128) (k0_off30 L k) S40x128.size (k0_off30_inb L k)) (fun _ => rfl)).view.loc (V d (cV L) (jV L))
        ↦[((oV).slice (Rect.unit (s := S200000x128) (k0_off30 L k) S40x128.size (k0_off30_inb L k)) (fun _ => rfl)).view.set]{fullShare}
          (((oV).slice (Rect.unit (s := S200000x128) (k0_off30 L k) S40x128.size (k0_off30_inb L k)) (fun _ => rfl)).view.writes (Elt F)
            (stage X p f 8 k.val) [⟨Rect.whole S40x128, pay⟩]))
      ∗ (oV).view.loc (V d (cV L) (jV L)) ↦[own (wid L) \ (Rect.unit (s := Res) (k0_off30 L k) S40x128.size (k0_off30_inb L k)).set]{fullShare}
          (stage X p f 8 k.val))
      ⊢ ((oV).view.loc (V d (cV L) (jV L)) ↦[own (wid L)]{fullShare} (stage X p f 8 (k.val + 1)) : sProp 𝕄) := by
  rw [oSet]
  refine rejoin (line_in L k) (fun j hj => (congrFun (View.write_univ_eq_writes_whole
    ((oV).slice (Rect.unit (s := S200000x128) (k0_off30 L k) S40x128.size (k0_off30_inb L k)) (fun _ => rfl)).view
    (stage X p f 8 k.val) [] pay) j).symm.trans ?_) (fun j hj => line_off (off30_eq L k) (wid_lt L) (k0_off30_inb L k) X p f hj)
  exact line_on (off30_eq L k) (wid_lt L) (line_lt L k) (k0_off30_inb L k) X p f (oV).view _
    (gath X p ⟨wid L + 32 * k.val, line_lt L k⟩) (fun _ _ => rfl) pay hpay hj

/-- What a tile holds before line trip `n`: its shares of the table and of the list, its rows of the result with every
    block copied and `n` lines done, its two buffers, its three semaphores at zero and what it owes. -/
def lineInv (d : Dev nD) (L : grid0.Coords) (O : CellTallies nD τ sig (HIx 1)) (W : Waits sig (HIx 1)) (q q' : PosShare TreeShare)
    (X : Tab.Idx → Elt F .f32) (p : Lst.Idx → BitVec 32) (f : Res.Idx → Elt F .f32) (n : Nat) (_ : PUnit.{1}) : sProp 𝕄 :=
  iprop(Transfers.MayWaits (V d (cV L) (jV L)) (none : HIx 1) O
    ∗ ((xV).view.loc (V d (cV L) (jV L)) ↦{q} X)
    ∗ ((pV).view.loc (V d (cV L) (jV L)) ↦{q'} p)
    ∗ ((oV).view.loc (V d (cV L) (jV L)) ↦[own (wid L)]{fullShare} (stage X p f 8 n))
    ∗ (∃ g, (iV).view.loc (V d (cV L) (jV L)) ↦{fullShare} g)
    ∗ (∃ g, (gV).view.loc (V d (cV L) (jV L)) ↦{fullShare} g)
    ∗ semVal (V d (cV L) (jV L), SemLoc.dma cc0_scoped4.sem) 0 ∗ semVal (V d (cV L) (jV L), SemLoc.dma cc0_scratch3.sem) 0
    ∗ semVal (V d (cV L) (jV L), SemLoc.dma cc0_scoped5.sem) 0
    ∗ ∃ W', ⌜∀ i ∈ W', i ∈ W ∨ i.2 = none⌝ ∗ owes (V d (cV L) (jV L)) O W')

/-- The pooling loop over lines: a tile that starts it with no line pooled ends it with all of its lines pooled, 79 of them for the first 4 tiles and 78 for the rest. -/
theorem line_loop (d : Dev nD) (L : grid0.Coords) (O : CellTallies nD τ sig (HIx 1)) (W : Waits sig (HIx 1)) (q q' : PosShare TreeShare)
    (X : Tab.Idx → Elt F .f32) (p : Lst.Idx → BitVec 32) (hP : ∀ j, (p j).toNat < 100000) (f : Res.Idx → Elt F .f32) :
    lineInv d L O W q q' X p f 0 ⟨⟩
      ⊢ wp frame (wpE (defs₀ (F := F)) 𝒱₀ (V d (cV L) (jV L)) none) Set.univ
        (Scf.Loop.for (k0_t3_loop L) (k0_t3_ok L) ⟨⟩ (k0_t3_body L xV (Memref.isWhole_whole _) pV (Memref.isWhole_whole _) oV (Memref.isWhole_whole _)
          iV (Memref.isWhole_whole _) gV (Memref.isWhole_whole _) bV (Memref.isWhole_whole _) cc0_scratch3
          cc0_scoped0 cc0_scoped1 cc0_scoped2 cc0_scoped3 cc0_scoped4 cc0_scoped5 cc0_scoped6 cc0_scoped7))
        fun _ => lineInv d L O W q q' X p f (if wid L < 4 then 79 else 78) ⟨⟩ := by
  have hgs : (gV).view.set = Finset.univ := View.set_whole _
  have his : (iV).view.set = Finset.univ := View.set_whole _
  have hN : ∀ h : S100000x128.Gathers 0 S80x128, ∑ j, ((gV).slice (S80x128.rowRect h.axis' j) (S80x128.stride_rowRect h.axis' j)).view.dmaCredit
      = (gV).view.dmaCredit := by decide
  iintro HI
  sl_for (lineInv d L O W q q' X p f) $$ [HI]
  case region =>
    intro k _
    unfold lineInv
    iintro ⟨#Hmw, Hx, Hp, Ho, ⟨%l, Hi⟩, ⟨%g, Hg⟩, Hs4, Hs3, Hs5, %W', %hW', HO⟩
    have hin : ∀ y : S80.Idx, ((iV).view.read (Elt F) (fetched (F := F) L p k) y).toNat < S100000x128.size gathers_S100000x128_S80x128.axis :=
      fun y => fetched_lt (F := F) L p hP k y
    sl_exec
    ihave Hi := (show ((iV).view.loc (V d (cV L) (jV L)) ↦{fullShare} (View.write (Elt F) (iV).view l (fetched (F := F) L p k) Finset.univ) : sProp 𝕄)
      ⊢ (iV).view.loc (V d (cV L) (jV L)) ↦[(iV).view.set]{fullShare} (fetched (F := F) L p k)
      from Entails.of_eq (by rw [his, View.write_whole_univ])) $$ [Hi]
    · iexact Hi
    ihave Hg := (show ((gV).view.loc (V d (cV L) (jV L)) ↦{fullShare} g : sProp 𝕄)
      ⊢ (gV).view.loc (V d (cV L) (jV L)) ↦[(gV).view.set]{fullShare} g from Entails.of_eq (by rw [hgs])) $$ Hg
    ihave Hx2 := (pointsTo_split_subset (ℓ := (xV).view.loc (V d (cV L) (jV L))) (q := q) (f := X) (S := Finset.univ) (Finset.subset_univ
      ((xV).slice (Rect.unit (s := S100000x128) ![0, 0] S100000x128.size inb_S100000x128_S100000x128_0_0) (fun _ => rfl)).view.set)).1 $$ Hx
    icases Hx2 with ⟨Hxs, Hxr⟩
    iapply (SparseCore.wp_indirectGatherLocal countersEmb 𝒱₀ (V d (cV L) (jV L)) none (hg := gathers_S100000x128_S80x128) (default : HIx 1)
      (gV).view.dmaCredit (hN _) (by decide) hin) $$ [Hxs Hg Hi Hs3]
    · isplitl [Hxs]; · iexact Hxs
      isplitl [Hg]; · iexact Hg
      isplitl [Hi]; · iexact Hi
      iexact Hs3
    iintro Hfl
    sl_exec
    iapply (Transfers.wp_waitLocalO countersEmb 𝒱₀ (V d (cV L) (jV L)) none (default : HIx 1) (rfl : (gV).view.dmaCredit = _)) $$ [Hfl HO]
    · isplitl [Hfl]; · iexact Hfl
      isplitl [HO]; · iexact HO
      iapply (Transfers.MayWaits.elim (SemLoc.dma cc0_scratch3.sem)) $$ Hmw
    iintro ⟨⟨Hg, Hxs, Hi⟩, Hs3, HO⟩
    ihave Hx := (pointsTo_split_subset (ℓ := (xV).view.loc (V d (cV L) (jV L))) (q := q) (f := X) (S := Finset.univ) (Finset.subset_univ
      ((xV).slice (Rect.unit (s := S100000x128) ![0, 0] S100000x128.size inb_S100000x128_S100000x128_0_0) (fun _ => rfl)).view.set)).2 $$ [Hxs Hxr]
    · isplitl [Hxs] <;> iassumption
    sl_exec
    have hread : ((xV).slice (Rect.unit (s := S100000x128) ![0, 0] S100000x128.size inb_S100000x128_S100000x128_0_0) (fun _ => rfl)).view.read (Elt F) X = X :=
      funext fun y => read_unit (xV).view X inb_S100000x128_S100000x128_0_0 y y fun i => match i with
        | ⟨0, _⟩ => (Nat.zero_add _).symm
        | ⟨1, _⟩ => (Nat.zero_add _).symm
    have hG := fun hn => gathered gathers_S100000x128_S80x128 X p ⟨wid L + 32 * k.val, line_lt L k⟩ (fetched (F := F) L p k) hn
      (fun y => fetched_lt (F := F) L p hP k y) (fetched_apply L p k)
    ihave Hg := (show ((gV).view.loc (V d (cV L) (jV L)) ↦[(gV).view.set]{fullShare} (View.write (Elt F) (gV).view g
        (SparseCore.gatherPayload gathers_S100000x128_S80x128
          (((xV).slice (Rect.unit (s := S100000x128) ![0, 0] S100000x128.size inb_S100000x128_S100000x128_0_0) (fun _ => rfl)).view.read (Elt F) X)
          (SparseCore.rows ((iV).view.read (Elt F) (fetched (F := F) L p k)) (by decide) hin)) Finset.univ) : sProp 𝕄)
      ⊢ (gV).view.loc (V d (cV L) (jV L)) ↦{fullShare} (gath X p ⟨wid L + 32 * k.val, line_lt L k⟩)
      from Entails.of_eq (by rw [hgs, View.write_whole_univ, hread]; exact congrArg _ (hG _))) $$ [Hg]
    · iexact Hg
    rw [wp_bind]
    iapply wp_wand $$ [Hg]
    · iapply (pool_loop d L (gath X p ⟨wid L + 32 * k.val, line_lt L k⟩)) $$ Hg
    iintro %_ Hg
    ihave Ho2 := (pointsTo_split_subset (line_in L k)).1 $$ Ho
    icases Ho2 with ⟨Hc, Hr⟩
    ihave Hc' := (show ((oV).view.loc (V d (cV L) (jV L)) ↦[(Rect.unit (s := Res) (k0_off30 L k) S40x128.size (k0_off30_inb L k)).set]{fullShare} (stage X p f 8 k.val) : sProp 𝕄)
      ⊢ (((oV).slice (Rect.unit (s := S200000x128) (k0_off30 L k) S40x128.size (k0_off30_inb L k)) (fun _ => rfl)).view.loc (V d (cV L) (jV L))
        ↦[((oV).slice (Rect.unit (s := S200000x128) (k0_off30 L k) S40x128.size (k0_off30_inb L k)) (fun _ => rfl)).view.set]{fullShare} (stage X p f 8 k.val) : sProp 𝕄)
      from Entails.of_eq (by rw [oSet])) $$ Hc
    sl_exec (disch := exact View.amount_pos _ _ (show 0 < S40x128.numel by decide))
    sl_step
    ihave Ho := (line_back d L X p f k
      (((gV).slice (Rect.unit (s := S80x128) ![0, 0] S40x128.size inb_S80x128_S40x128_0_0) (fun _ => rfl)).view.read (Elt F)
        (mid (gath X p ⟨wid L + 32 * k.val, line_lt L k⟩) 40 0))
      (fun y z hyz => read_unit (gV).view _ inb_S80x128_S40x128_0_0 y z fun i => match i with
        | ⟨0, _⟩ => (hyz 0).trans (Nat.zero_add _).symm
        | ⟨1, _⟩ => (hyz 1).trans (Nat.zero_add _).symm)) $$ [Hc' Hr]
    · isplitl [Hc']
      · iexact Hc'
      · iexact Hr
    isplitr; · iexact Hmw
    isplitl [Hx]; · iexact Hx
    isplitl [Hp]; · iexact Hp
    isplitl [Ho]; · iexact Ho
    isplitl [Hi]; · iexists _; rw [← his]; iexact Hi
    isplitl [Hg]; · iexists _; iexact Hg
    isplitl [Hs4]; · iexact Hs4
    isplitl [Hs3]; · iexact Hs3
    isplitl [Hs5]; · iexact Hs5
    iexists (insert (SemLoc.dma cc0_scoped5.sem, (none : HIx 1)) (insert (SemLoc.dma cc0_scratch3.sem, (none : HIx 1))
      (insert (SemLoc.dma cc0_scoped4.sem, (none : HIx 1)) W')))
    isplitr
    · ipureintro
      intro i hi
      rcases Finset.mem_insert.mp hi with rfl | hi
      · exact .inr rfl
      rcases Finset.mem_insert.mp hi with rfl | hi
      · exact .inr rfl
      rcases Finset.mem_insert.mp hi with rfl | hi
      · exact .inr rfl
      exact hW' i hi
    · iexact HO
  · isplitl [HI]
    · iexact HI
    iintro %_ HI
    rw [show Scf.trips (k0_t3_loop L).lb (k0_t3_loop L).ub (k0_t3_loop L).st = _ from trips_t3 L]
    iexact HI

end Cert.Proof.Ideal
-- ==== Proof.IdealTile.lean ====
/-
  One tile's run: its blocks of the table copied, its lines pooled, everything it was lent given back.
-/
module

public import proofs.«01_k».proof.Proof.IdealLine

@[expose] public section

noncomputable section

namespace Cert.Proof.Ideal

open Cert.KernelIdeal Cert.KernelIdeal.Gen Cert.Proof.Target Cert.Proof.Moves

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xV" => (Memref.whole main_arg0_scv : Memref sig Kind.scVector Space.hbm S100000x128 EltTy.f32)
local notation "pV" => (Memref.whole main_v0_scv : Memref sig Kind.scVector Space.hbm S2500x80 EltTy.i32)
local notation "oV" => (Memref.whole main_v1_scv : Memref sig Kind.scVector Space.hbm S200000x128 EltTy.f32)
local notation "iV" => (Memref.whole cc0_scratch0 : Memref sig Kind.scVector Space.vmem S80 EltTy.i32)
local notation "gV" => (Memref.whole cc0_scratch1 : Memref sig Kind.scVector Space.vmem S80x128 EltTy.f32)
local notation "bV" => (Memref.whole cc0_scratch2 : Memref sig Kind.scVector Space.vmem S400x128 EltTy.f32)

/-- A semaphore of the tile. -/
abbrev cell (d : Dev nD) (L : grid0.Coords) (s : DmaSems sig S_) : GSem nD τ sig := (V d (cV L) (jV L), SemLoc.dma s.sem)

/-- A tile's scoped transfer semaphore is among its own. -/
theorem cell_mem (d : Dev nD) (L : grid0.Coords) (s : DmaSems sig S_) (h : (SemLoc.dma s.sem : SemLoc sig).isScoped .scVector = true) :
    cell d L s ∈ ownCells (V d (cV L) (jV L)) := mem_ownCells.mpr ⟨rfl, h⟩

/-- Two different transfer semaphores of a tile are two cells. -/
theorem cell_ne (d : Dev nD) (L : grid0.Coords) {s s' : DmaSems sig S_} (h : (SemLoc.dma s.sem : SemLoc sig) ≠ SemLoc.dma s'.sem) :
    cell d L s ≠ cell d L s' := fun e => h (Prod.ext_iff.mp e).2

/-- The five semaphores the tile's copies complete on are among its own: they are them and the rest. -/
theorem ownSems0_tile (d : Dev nD) (L : grid0.Coords) :
    (ownSems0 (V d (cV L) (jV L)) : sProp 𝕄)
      = iprop(semVal (cell d L cc0_scoped0) 0 ∗ semVal (cell d L cc0_scoped1) 0 ∗ semVal (cell d L cc0_scoped4) 0 ∗ semVal (cell d L cc0_scratch3) 0 ∗ semVal (cell d L cc0_scoped5) 0
          ∗ bigSep ((((((ownCells (V d (cV L) (jV L))).erase (cell d L cc0_scoped0)).erase (cell d L cc0_scoped1)).erase (cell d L cc0_scoped4)).erase (cell d L cc0_scratch3)).erase (cell d L cc0_scoped5))
            fun g => semVal g 0) := by
  unfold SparseCore.Cfg.ownSems0
  rw [SparseCore.bigSep_erase' (cell_mem d L cc0_scoped0 (by decide)),
    SparseCore.bigSep_erase' (Finset.mem_erase.mpr ⟨cell_ne d L (by decide), (cell_mem d L cc0_scoped1 (by decide))⟩),
    SparseCore.bigSep_erase' (Finset.mem_erase.mpr ⟨cell_ne d L (by decide), (Finset.mem_erase.mpr ⟨cell_ne d L (by decide), (cell_mem d L cc0_scoped4 (by decide))⟩)⟩),
    SparseCore.bigSep_erase' (Finset.mem_erase.mpr ⟨cell_ne d L (by decide), (Finset.mem_erase.mpr ⟨cell_ne d L (by decide), (Finset.mem_erase.mpr ⟨cell_ne d L (by decide), (cell_mem d L cc0_scratch3 (by decide))⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (cell_mem d L cc0_scoped5 (by decide))⟩)⟩)⟩)⟩)]

/-- The three buffers the tile works in are among its own: they are them, at some contents, and the rest. -/
theorem ownBufs_tile (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide),
      (Finset.mem_erase.mpr ⟨fun e => absurd (Proc.devRef_injective _ e) (show (cc0_scratch2 : Ref sig .scVector) ≠ cc0_scratch0 by decide),
      (SparseCore.Cfg.mem_ownRefs_of_owner (p := Proc.scVector (cV L) (jV L)) (b := (Proc.scVector (cV L) (jV L)).devRef cc0_scratch2) rfl)⟩)⟩)]

/-- The second copy loop makes no trip. -/
theorem copy_rest (d : Dev nD) (L : grid0.Coords) (R : sProp 𝕄) :
    R ⊢ wp frame (wpE (defs₀ (F := F)) 𝒱₀ (V d (cV L) (jV L)) none) Set.univ
        (Scf.Loop.for (k0_t2_loop L) (k0_t2_ok L) ⟨⟩ (k0_t2_body L xV (Memref.isWhole_whole _) pV (Memref.isWhole_whole _) oV (Memref.isWhole_whole _)
          iV (Memref.isWhole_whole _) gV (Memref.isWhole_whole _) bV (Memref.isWhole_whole _) cc0_scratch3
          cc0_scoped0 cc0_scoped1 cc0_scoped2 cc0_scoped3 cc0_scoped4 cc0_scoped5 cc0_scoped6 cc0_scoped7))
        fun _ => R := by
  iintro HR
  sl_for (fun (_ : Nat) (_ : PUnit.{1}) => R) $$ [HR]
  case region =>
    intro k _
    exact absurd (lt_of_lt_of_eq k.isLt (trips_t2 L)) (Nat.not_lt_zero _)
  · isplitl [HR]
    · iexact HR
    iintro %_ HI
    iexact HI

/-- The second line loop makes no trip. -/
theorem line_rest (d : Dev nD) (L : grid0.Coords) (R : sProp 𝕄) :
    R ⊢ wp frame (wpE (defs₀ (F := F)) 𝒱₀ (V d (cV L) (jV L)) none) Set.univ
        (Scf.Loop.for (k0_t5_loop L) (k0_t5_ok L) ⟨⟩ (k0_t5_body L xV (Memref.isWhole_whole _) pV (Memref.isWhole_whole _) oV (Memref.isWhole_whole _)
          iV (Memref.isWhole_whole _) gV (Memref.isWhole_whole _) bV (Memref.isWhole_whole _) cc0_scratch3
          cc0_scoped0 cc0_scoped1 cc0_scoped2 cc0_scoped3 cc0_scoped4 cc0_scoped5 cc0_scoped6 cc0_scoped7))
        fun _ => R := by
  iintro HR
  sl_for (fun (_ : Nat) (_ : PUnit.{1}) => R) $$ [HR]
  case region =>
    intro k _
    exact absurd (lt_of_lt_of_eq k.isLt (trips_t5 L)) (Nat.not_lt_zero _)
  · isplitl [HR]
    · iexact HR
    iintro %_ HI
    iexact HI

/-- Every block of the tile is copied after its copy trips, however many are counted. -/
theorem copied (L : grid0.Coords) (X : Tab.Idx → Elt F .f32) (p : Lst.Idx → BitVec 32) (f : Res.Idx → Elt F .f32) :
    ∀ j ∈ own (wid L), stage X p f (if wid L < 26 then 8 else 7) 0 j = stage X p f 8 0 j := fun j hj =>
  stage_full X p f (by split_ifs <;> omega) (by omega) (.inr rfl) hj

/-- Every row of the tile is done after its line trips. -/
theorem pooled (L : grid0.Coords) (X : Tab.Idx → Elt F .f32) (p : Lst.Idx → BitVec 32) (f : Res.Idx → Elt F .f32) :
    ∀ j ∈ own (wid L), stage X p f 8 (if wid L < 4 then 79 else 78) j = target X p j := fun j hj =>
  stage_done X p f (by omega) (by split_ifs <;> omega) hj

/-- The tile's run: from shares of the table and of the list and the tile's rows of the result, back come the shares and
    the rows at the contents the specification gives them. -/
theorem tile_body (d : Dev nD) (L : grid0.Coords) (O : CellTallies nD τ sig (HIx 1)) (W : Waits sig (HIx 1)) (hO : ∀ g, O g none = 0)
    (q q' : PosShare TreeShare) (X : Tab.Idx → Elt F .f32) (p : Lst.Idx → BitVec 32) (hP : ∀ j, (p j).toNat < 100000) (f : Res.Idx → Elt F .f32) :
    iprop(levAts (K (F := F)).L (K (F := F)).lev ∗ emp
      ∗ (((xV).view.loc (V d (cV L) (jV L)) ↦{q} X) ∗ ((pV).view.loc (V d (cV L) (jV L)) ↦{q'} p)
        ∗ ((oV).view.loc (V d (cV L) (jV L)) ↦[own (wid L)]{fullShare} f))
      ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
        (cc0__pooled L xV (Memref.isWhole_whole _) pV (Memref.isWhole_whole _) oV (Memref.isWhole_whole _)
          iV (Memref.isWhole_whole _) gV (Memref.isWhole_whole _) bV (Memref.isWhole_whole _) cc0_scratch3
          cc0_scoped0 cc0_scoped1 cc0_scoped2 cc0_scoped3 cc0_scoped4 cc0_scoped5 cc0_scoped6 cc0_scoped7)
        fun _ => iprop((((xV).view.loc (V d (cV L) (jV L)) ↦{q} X) ∗ ((pV).view.loc (V d (cV L) (jV L)) ↦{q'} p)
            ∗ ((oV).view.loc (V d (cV L) (jV L)) ↦[own (wid L)]{fullShare} (target X p)))
          ∗ scopedBufs (V d (cV L) (jV L)) ∗ scopedSems0 (V d (cV L) (jV L))
          ∗ ∃ W', ⌜∀ i ∈ W', i ∈ W ∨ i.2 = none⌝ ∗ owes (V d (cV L) (jV L)) O W') : sProp 𝕄) := by
  rw [cc0__pooled_eq_skeleton]
  unfold cc0__pooled_skel
  rw [(K (F := F)).scopedBufs_V facts d (cV L) (jV L), SparseCore.Cfg.scopedSems0_V (Val := Elt F) d (cV L) (jV L), ownSems0_tile, ownBufs_tile]
  iintro ⟨#Hlv, -, ⟨Hx, Hp, Ho⟩, ⟨⟨%fi, Hi⟩, ⟨%fg, Hg⟩, ⟨%fb, Hb⟩, Hbufs⟩, ⟨Hs0, Hs1, Hs4, Hs3, Hs5, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  rw [wp_bind]
  iapply wp_wand $$ [Hx Ho Hb Hs0 Hs1 HO]
  · iapply (copy_loop d L O W q X p f)
    unfold copyInv
    rw [stage_zero]
    isplitr; · iexact Hmw
    isplitl [Hx]; · iexact Hx
    isplitl [Ho]; · iexact Ho
    isplitl [Hb]; · iexists fb; iexact Hb
    isplitl [Hs0]; · iexact Hs0
    isplitl [Hs1]; · iexact Hs1
    iexists W
    isplitr
    · ipureintro
      exact fun i hi => .inl hi
    · iexact HO
  unfold copyInv
  iintro %_ ⟨-, Hx, Ho, ⟨%fb', Hb⟩, Hs0, Hs1, %W1, %hW1, HO⟩
  ihave Ho := (show ((oV).view.loc (V d (cV L) (jV L)) ↦[own (wid L)]{fullShare} (stage X p f (if wid L < 26 then 8 else 7) 0) : sProp 𝕄)
    ⊢ (oV).view.loc (V d (cV L) (jV L)) ↦[own (wid L)]{fullShare} (stage X p f 8 0)
    from Entails.of_eq (pointsTo_congr (copied L X p f))) $$ Ho
  rw [wp_bind]
  iapply wp_wand $$ []
  · iapply (copy_rest d L iprop(emp))
    iempintro
  iintro %_ -
  rw [wp_bind]
  iapply wp_wand $$ [Hx Hp Ho Hi Hg Hs4 Hs3 Hs5 HO]
  · iapply (line_loop d L O W1 q q' X p hP f)
    unfold lineInv
    isplitr; · iexact Hmw
    isplitl [Hx]; · iexact Hx
    isplitl [Hp]; · iexact Hp
    isplitl [Ho]; · iexact Ho
    isplitl [Hi]; · iexists fi; iexact Hi
    isplitl [Hg]; · iexists fg; iexact Hg
    isplitl [Hs4]; · iexact Hs4
    isplitl [Hs3]; · iexact Hs3
    isplitl [Hs5]; · iexact Hs5
    iexists W1
    isplitr
    · ipureintro
      exact fun i hi => .inl hi
    · iexact HO
  unfold lineInv
  iintro %_ ⟨-, Hx, Hp, Ho, ⟨%fi', Hi⟩, ⟨%fg', Hg⟩, Hs4, Hs3, Hs5, %W2, %hW2, HO⟩
  ihave Ho := (show ((oV).view.loc (V d (cV L) (jV L)) ↦[own (wid L)]{fullShare} (stage X p f 8 (if wid L < 4 then 79 else 78)) : sProp 𝕄)
    ⊢ (oV).view.loc (V d (cV L) (jV L)) ↦[own (wid L)]{fullShare} (target X p)
    from Entails.of_eq (pointsTo_congr (pooled L X p f))) $$ Ho
  rw [wp_bind]
  iapply wp_wand $$ []
  · iapply (line_rest d L iprop(emp))
    iempintro
  iintro %_ -
  rw [wp_pure]
  imodintro
  isplitl [Hx Hp Ho]
  · isplitl [Hx]; · iexact Hx
    isplitl [Hp]; · iexact Hp
    iexact Ho
  isplitl [Hi Hg Hb Hbufs]
  · isplitl [Hi]; · iexists fi'; iexact Hi
    isplitl [Hg]; · iexists fg'; iexact Hg
    isplitl [Hb]; · iexists fb'; iexact Hb
    iexact Hbufs
  isplitl [Hs0 Hs1 Hs4 Hs3 Hs5 Hsems]
  · isplitl [Hs0]; · iexact Hs0
    isplitl [Hs1]; · iexact Hs1
    isplitl [Hs4]; · iexact Hs4
    isplitl [Hs3]; · iexact Hs3
    isplitl [Hs5]; · iexact Hs5
    iexact Hsems
  iexists W2
  isplitr
  · ipureintro
    intro i hi
    rcases hW2 i hi with hi | hi
    · exact hW1 i hi
    · exact .inr hi
  · iexact HO

end Cert.Proof.Ideal
-- ==== Proof.IdealLaunch.lean ====
/-
  The whole program's run: the host hands the list over in lines, the one call takes the table, the lines and the result
  to the thirty-two tiles and back, and the result holds what the specification says.
-/
module

public import proofs.«01_k».proof.Proof.IdealTile
public import Idealize.ShloMosaic.Adequacy

@[expose] public section

noncomputable section

namespace Cert.Proof.Ideal

open Cert.KernelIdeal Cert.KernelIdeal.Gen Cert.Proof.Target Cert.Proof.Moves

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ
local notation "xV" => (Memref.whole main_arg0_scv : Memref sig Kind.scVector Space.hbm S100000x128 EltTy.f32)
local notation "pV" => (Memref.whole main_v0_scv : Memref sig Kind.scVector Space.hbm S2500x80 EltTy.i32)
local notation "oV" => (Memref.whole main_v1_scv : Memref sig Kind.scVector Space.hbm S200000x128 EltTy.f32)
local notation "iV" => (Memref.whole cc0_scratch0 : Memref sig Kind.scVector Space.vmem S80 EltTy.i32)
local notation "gV" => (Memref.whole cc0_scratch1 : Memref sig Kind.scVector Space.vmem S80x128 EltTy.f32)
local notation "bV" => (Memref.whole cc0_scratch2 : Memref sig Kind.scVector Space.vmem S400x128 EltTy.f32)

/-! ## What the call carries -/

/-- The index list in lines of eighty words. -/
def lst (a : S100000x2.Idx → BitVec 32) : Lst.Idx → BitVec 32 := shapeCast S2500x80 a shapeCasts_S100000x2_S2500x80

/-- A SparseCore's share of what every tile reads, and a tile's. -/
abbrev coreShare (c : Fin 2) : PosShare TreeShare := pieceOf fullShare 2 (by decide) c
abbrev tileShare (c : Fin 2) (s : Fin 16) : PosShare TreeShare := pieceOf (coreShare c) 16 (by decide) s

variable (m : (ℓ : Loc nD τ sig) → Buf (Elt F) ℓ) (ρ : Dev nD → PrngReg)

/-- The table, the lines, and the result's rows in `I` at `f`, the first two at the share `q`. -/
abbrev lent (d : Dev nD) (q : PosShare TreeShare) (I : Finset Res.Idx) (f : Res.Idx → Elt F .f32) : sProp 𝕄 :=
  iprop((xLoc d ↦{q} m (xLoc d)) ∗ (pLoc d ↦{q} lst (m (aLoc d))) ∗ (oLoc d ↦[I]{fullShare} f))

/-- The result the specification names. -/
abbrev out (d : Dev nD) : Res.Idx → Elt F .f32 := target (m (xLoc d)) (lst (m (aLoc d)))

def P : (K (F := F)).Pay (nD := nD) (Val := Elt F) (Name := ℕ) (U := UU) where
  st := fun q d c => match q with | 0 => lent m d (coreShare (Fin.cast nCore_zero c)) (ownCore c.val) (m (oLoc d))
  dn := fun q d c => match q with | 0 => lent m d (coreShare (Fin.cast nCore_zero c)) (ownCore c.val) (out m d)
  go := fun q d c i => match q with
    | 0 => lent m d (tileShare (Fin.cast nCore_zero c) (Fin.cast nSub_zero i)) (own (2 * i.val + c.val)) (m (oLoc d))
  td := fun q d c i => match q with
    | 0 => lent m d (tileShare (Fin.cast nCore_zero c) (Fin.cast nSub_zero i)) (own (2 * i.val + c.val)) (out m d)
  x := fun _ _ => iprop(emp)

instance P_storable : (P (F := F) m).IsStorable where
  st q d c := match q with
    | 0 => (inferInstance : BI.Storable (upEmb : UEmb _ 𝕄) (lent m d (coreShare (Fin.cast nCore_zero c)) (ownCore c.val) (m (oLoc d))))
  dn q d c := match q with
    | 0 => (inferInstance : BI.Storable (upEmb : UEmb _ 𝕄) (lent m d (coreShare (Fin.cast nCore_zero c)) (ownCore c.val) (out m d)))
  go q d c i := match q with
    | 0 => (inferInstance : BI.Storable (upEmb : UEmb _ 𝕄)
      (lent m d (tileShare (Fin.cast nCore_zero c) (Fin.cast nSub_zero i)) (own (2 * i.val + c.val)) (m (oLoc d))))
  td q d c i := match q with
    | 0 => (inferInstance : BI.Storable (upEmb : UEmb _ 𝕄)
      (lent m d (tileShare (Fin.cast nCore_zero c) (Fin.cast nSub_zero i)) (own (2 * i.val + c.val)) (out m d)))

/-- What is asked of the launch memory: every word of the index list names a row of the table. -/
def PreOK : Prop := ∀ (d : Dev nD) (j : S100000x2.Idx), (m (aLoc d) j).toNat < 100000

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs is the kernel's body on its own core and subcore numbers. -/
theorem defs₀_vector (c : Fin τ.nSC) (s : Fin τ.nSub) :
    defs₀ (F := F) (.scVector c s) 0 ()
      = SparseCore.onTile hcore0 hsub0 (fun c s => cc0__pooled (coordsV c s) xV (Memref.isWhole_whole _) pV (Memref.isWhole_whole _) oV (Memref.isWhole_whole _)
          iV (Memref.isWhole_whole _) gV (Memref.isWhole_whole _) bV (Memref.isWhole_whole _) cc0_scratch3
          cc0_scoped0 cc0_scoped1 cc0_scoped2 cc0_scoped3 cc0_scoped4 cc0_scoped5 cc0_scoped6 cc0_scoped7) ⟨⟩ c s := rfl

/-- A tile whose waits are its old ones or no call's has waits that are its old ones, no call's or this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

set_option maxRecDepth 16384 in
/-- Each tile, lent its shares and its rows, gives them back with the result in its rows. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) O W hO (tileShare (Fin.cast nCore_zero c) (Fin.cast nSub_zero i))
    (tileShare (Fin.cast nCore_zero c) (Fin.cast nSub_zero i)) (m (xLoc d)) (lst (m (aLoc d))) (fun _ => hpre d _) (m (oLoc d))).trans
    (wp_mono frame _ _ fun _ => obl_post)

/-! ## The shares and the rows split and join -/

/-- A SparseCore's shares and rows are its sixteen tiles'. -/
theorem lent_tiles (d : Dev nD) (c : Fin 2) (f : Res.Idx → Elt F .f32) :
    lent m d (coreShare c) (ownCore c.val) f
      = bigSep Finset.univ fun s : Fin 16 => lent m d (tileShare c s) (own (2 * s.val + c.val)) f := by
  rw [bigSep_sep', bigSep_sep', ← pointsTo_piecesOf, ← pointsTo_piecesOf,
    ← pointsTo_biUnion (ℓ := oLoc d) Finset.univ (fun s : Fin 16 => own (2 * s.val + c.val)) fun _ _ _ _ h => own_disjoint c h, own_cover]

/-- The program's arrays are the two SparseCores' shares and rows. -/
theorem lent_cores (d : Dev nD) (f : Res.Idx → Elt F .f32) :
    lent m d fullShare Finset.univ f = bigSep Finset.univ fun c : Fin 2 => lent m d (coreShare c) (ownCore c.val) f := by
  rw [bigSep_sep', bigSep_sep', ← pointsTo_piecesOf, ← pointsTo_piecesOf,
    ← pointsTo_biUnion (ℓ := oLoc d) Finset.univ (fun c : Fin 2 => ownCore c.val) fun _ _ _ _ h => ownCore_disjoint h, ownCore_cover]

/-- What a SparseCore is lent splits among its sixteen tiles, and what they give back joins to what it gives back. -/
theorem vecSplit : (K (F := F)).VecSplit' (P m) 0 := by
  intro d c
  show lent m d (coreShare (Fin.cast nCore_zero c)) (ownCore (Fin.cast nCore_zero c).val) (m (oLoc d)) ⊢ |={Set.univ}=> iprop(
      (bigSep Finset.univ fun i : Fin 16 => lent m d (tileShare (Fin.cast nCore_zero c) i) (own (2 * i.val + (Fin.cast nCore_zero c).val)) (m (oLoc d)))
      ∗ ((bigSep Finset.univ fun i : Fin 16 => lent m d (tileShare (Fin.cast nCore_zero c) i) (own (2 * i.val + (Fin.cast nCore_zero c).val)) (out m d))
          -∗ lent m d (coreShare (Fin.cast nCore_zero c)) (ownCore (Fin.cast nCore_zero c).val) (out m d)))
  rw [← lent_tiles, ← lent_tiles]
  iintro H
  imodintro
  isplitl [H]
  · iexact H
  iintro H
  iexact H

/-- What the two SparseCores are lent is the arrays whole, the result as it was. -/
theorem st_all (d : Dev nD) : (bigSep Finset.univ fun c : Fin ((K (F := F)).nCore 0) => (P m).st 0 d c) = lent m d fullShare Finset.univ (m (oLoc d)) :=
  (lent_cores m d (m (oLoc d))).symm

/-- What the two SparseCores give back is the arrays whole, the result as specified. -/
theorem dn_all (d : Dev nD) : (bigSep Finset.univ fun c : Fin ((K (F := F)).nCore 0) => (P m).dn 0 d c) = lent m d fullShare Finset.univ (out m d) :=
  (lent_cores m d (out m d)).symm

/-! ## The launch element of the ghost state -/

def u₀ : UU := (initOf (K (F := F)).hsCells (K (F := F)).hsToks, 1)

/-- Nothing, taken once for each member of a set, is nothing. -/
theorem bigSep_none {I : Type} (s : Finset I) : (bigSep s fun _ => iprop(emp)) = (iprop(emp) : sProp 𝕄) := bigSep_emp_const s

/-- The launch element holds the handshakes' ghost state; the threads are given nothing beside it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The TensorCore -/

abbrev x' : DevRef τ sig := Proc.devRef .tc (main_arg0 : Ref sig .tc)
abbrev a' : DevRef τ sig := Proc.devRef .tc (main_arg1 : Ref sig .tc)
abbrev p' : DevRef τ sig := Proc.devRef .tc (main_v0 : Ref sig .tc)
abbrev o' : DevRef τ sig := Proc.devRef .tc (main_v1 : Ref sig .tc)

/-- The host's reshape of the index list into lines. -/
abbrev opLines : HloOp τ sig (Elt F) := StableHlo.reshape main_arg1 main_v0 (rfl : (.i32 : EltTy) = .i32) shapeCasts_S100000x2_S2500x80

/-- The TensorCore's arrays. -/
abbrev arrays : Finset (DevRef τ sig) := {x', a', p', o'}

/-- Holding the four arrays at some contents is holding each of them at its own. -/
theorem held_arrays (d : Dev nD) (W : Valuation τ sig (Elt F)) :
    (held (T d) arrays W : sProp 𝕄)
      = iprop((xLoc d ↦{fullShare} W x') ∗ (aLoc d ↦{fullShare} W a') ∗ (pLoc d ↦{fullShare} W p') ∗ oLoc d ↦{fullShare} W o') := by
  unfold held arrays
  rw [SparseCore.bigSep_insert' (by decide), SparseCore.bigSep_insert' (by decide), SparseCore.bigSep_insert' (by decide), bigSep_singleton]

/-- The buffers that live through the whole program are the four arrays. -/
theorem unscopedBufs_arrays (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (pLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays at launch. -/
def V0 (d : Dev nD) : Valuation τ sig (Elt F) := fun b => m (d, b)

/-- At launch the TensorCore holds the four arrays at their launch contents. -/
theorem unscoped_held (d : Dev nD) : (unscopedBufs d (fun b => m ((SparseCore.T d).loc b)) : sProp 𝕄) = held (T d) arrays (V0 m d) := by
  rw [unscopedBufs_arrays, held_arrays]
  rfl

/-- After the reshape the lines are the list's and the other arrays are as they were. -/
theorem held_lines (d : Dev nD) :
    (held (T d) arrays ((opLines (F := F)).result (V0 m d)) : sProp 𝕄)
      = iprop((xLoc d ↦{fullShare} m (xLoc d)) ∗ (aLoc d ↦{fullShare} m (aLoc d)) ∗ (pLoc d ↦{fullShare} lst (m (aLoc d))) ∗ oLoc d ↦{fullShare} m (oLoc d)) := by
  rw [held_arrays,
    (opLines (F := F)).result_of_not_mem (V0 m d) (b := x') (show x' ∉ ({p'} : Finset (DevRef τ sig)) by decide),
    (opLines (F := F)).result_of_not_mem (V0 m d) (b := a') (show a' ∉ ({p'} : Finset (DevRef τ sig)) by decide),
    (opLines (F := F)).result_of_not_mem (V0 m d) (b := o') (show o' ∉ ({p'} : Finset (DevRef τ sig)) by decide),
    show (opLines (F := F)).result (V0 m d) p' = lst (m (aLoc d)) from StableHlo.reshape_result main_arg1 main_v0 _ _ _ _ _]
  rfl

/-- The reshape touches the four arrays only. -/
theorem lines_sub : (opLines (F := F)).bufs ⊆ arrays := show ({a', p'} : Finset (DevRef τ sig)) ⊆ arrays by decide

/-- What the TensorCore ends with: the two arguments as they were and the result the specification names. -/
abbrev FIN (d : Dev nD) : sProp 𝕄 :=
  iprop((xLoc d ↦{fullShare} m (xLoc d)) ∗ (aLoc d ↦{fullShare} m (aLoc d)) ∗ (oLoc d ↦{fullShare} out m d))

/-- The TensorCore's program: the reshape, then the call, end with the arguments as they were and the result as specified. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opLines) (S := arrays) lines_sub (V := V0 m d)) $$ [Hb Hheld]
  · isplitl [Hb]; · iexact Hb
    iexact Hheld
  iintro ⟨Hb, Hheld⟩
  ihave Hh := (Entails.of_eq (held_lines (F := F) m d)) $$ Hheld
  icases Hh with ⟨Hx, Ha, Hp, Ho⟩
  rw [wp_ret]
  imodintro
  iapply ((K (F := F)).wp_run (D (F := F)) 𝒱 (EH := EH) (P := P m) κ d 0) $$ [Hst Hx Hp Ho Hb Ha Hts]
  isplitr; · iexact Hctx
  isplitl [Hst]; · iexact Hst
  isplitl [Hx Hp Ho]
  · rw [st_all]
    isplitl [Hx]; · iexact Hx
    isplitl [Hp]; · iexact Hp
    iexact Ho
  iintro ⟨Hst, Hdn⟩
  ihave Hdn' := (Entails.of_eq (dn_all m d)) $$ Hdn
  icases Hdn' with ⟨Hx, -, Ho⟩
  imodintro
  isplitl [Hst]; · iexact Hst
  isplitr [Hb Hts]
  · isplitl [Hx]; · iexact Hx
    isplitl [Ha]; · iexact Ha
    iexact Ho
  isplitl [Hb] <;> iassumption

/-! ## The run -/

/-- What the end memory holds on a device. -/
def fq (d : Dev nD) (s' : Phys nD τ sig (Elt F)) : Prop :=
  s'.mem.mem (oLoc d) = out m d ∧ s'.mem.mem (xLoc d) = m (xLoc d) ∧ s'.mem.mem (aLoc d) = m (aLoc d)

set_option maxRecDepth 16384 in
/-- What the TensorCore ends with, read off the final memory. -/
theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What the run ends with: the result the specification names, the arguments as they were, every semaphore at zero. -/
def QC : PUnit.{1} × MemSt nD τ sig (Elt F) → Prop := fun r =>
  (∀ c : Dev nD, r.2.mem (oLoc c) = out m c ∧ r.2.mem (xLoc c) = m (xLoc c) ∧ r.2.mem (aLoc c) = m (aLoc c)) ∧ r.2.sem = fun _ => 0

/-- Every weakly fair run from an index list in range ends, and ends there. -/
theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ideal
-- ==== Proof.Reference.lean ====
/-
  The reference's result is the specification's: rows below 100000 are the table's own, and a row above holds half the
  sum of the two table rows its pair of indices names. The reference adds first and multiplies the half from the left,
  where the specification multiplies it from the right; over the extended reals the two agree. The reference wraps a
  negative index and blanks a row whose index is out of range; with every index in range it does neither.
-/
module

public import proofs.«01_k».proof.Proof.IdealLaunch
public import proofs.«01_k».proof.Proof.Gen.ReferenceIdeal
public import proofs.«01_k».proof.Proof.Gen.ReferenceIdeal.Run
public import proofs.«01_k».proof.Proof.Gen.ReferenceIdeal.Read
public import Idealize.ShloMosaic.Lib.ReduceAll
public import Idealize.ShloMosaic.Lib.ValueIdxCore

@[expose] public section

noncomputable section

namespace Cert.Proof.Reference

open Cert.ReferenceIdeal Cert.ReferenceIdeal.Gen Cert.ReferenceIdeal.Read Idealize.ShloMosaic Idealize.ShloMosaic.ValueIdx
open Cert.Proof.Target (Lst Res target mean row)

/-- An index array's line-by-line reading, eighty words to a line. -/
abbrev lines (x1 : S100000x2.Idx → BitVec 32) : Lst.Idx → BitVec 32 := Cert.Proof.Ideal.lst x1

/-- A word below 100000 is not negative. -/
theorem word_not_neg (v : BitVec 32) (h : v.toNat < 100000) : IntOp.cmpi .slt v 0#32 = 0#1 := by
  have hz : v.slt 0#32 = false := by
    rw [BitVec.slt_eq_decide, decide_eq_false_iff_not, BitVec.toInt_eq_toNat_cond, BitVec.toInt_zero]
    rw [if_pos (by omega)]
    omega
  simp only [IntOp.cmpi, hz]; rfl

/-- A word below 100000 passes the reference's range test. -/
theorem word_in_range (v : BitVec 32) (h : v.toNat < 100000) :
    IntOp.andi (IntOp.cmpi .sge v 0#32) (IntOp.cmpi .sle v 99999#32) = 1#1 := by
  have h1 : (0#32 : BitVec 32).sle v = true := by
    rw [BitVec.sle_eq_decide, decide_eq_true_eq, BitVec.toInt_eq_toNat_cond (x := v), BitVec.toInt_zero]
    rw [if_pos (by omega)]
    omega
  have h2 : v.sle 99999#32 = true := by
    rw [BitVec.sle_eq_decide, decide_eq_true_eq, BitVec.toInt_eq_toNat_cond (x := v)]
    rw [if_pos (by omega), show (99999#32 : BitVec 32).toInt = 99999 by decide]
    omega
  simp only [IntOp.cmpi, h1, h2]; rfl

/-- A word below 100000, read signed, is the number it is read unsigned. -/
theorem word_toInt (v : BitVec 32) (h : v.toNat < 100000) : v.toInt.toNat = v.toNat := by
  rw [BitVec.toInt_eq_toNat_cond, if_pos (by omega)]
  omega

section
variable {F : FTy → Type} [FloatOps F]

/-- The reference's gather of whole rows, read at row pair `j 0`, member `j 1` and column `j 2`: the table at the row the
    index names, read signed and clamped to the table's rows. -/
theorem gather_apply (x : S100000x128.Idx → Elt F .f32) (idx : IVec S100000x2x1 32) (j : S100000x2x128.Idx)
    (i : S100000x2x1.Idx) (hi : ∀ a : Fin 3, (i a).val = if a.val = 2 then 0 else (j a).val)
    (r : Fin 100000) (hr : r.val = min (idx i).toInt.toNat 99999) :
    Host.gather gather_S100000x128_S100000x2x1_S100000x2x128_2_0_n_n_0_2_1128 x idx j
      = x (ix2 (n0 := 100000) (n1 := 128) r ⟨(j 2).val, (j 2).isLt⟩) := by
  have hs0 : GatherDims.start gather_S100000x128_S100000x2x1_S100000x2x128_2_0_n_n_0_2_1128 j idx 0 = r.val := by
    unfold GatherDims.start
    refine (dif_pos (show (0 : Fin 2) ∈ [(0 : Fin 2)] from List.mem_singleton.mpr rfl)).trans (Eq.trans ?_ hr.symm)
    refine congrArg (fun k => min (idx k).toInt.toNat 99999) ?_
    funext b
    refine Fin.ext (Eq.trans ?_ (hi b).symm)
    match b with
    | ⟨0, _⟩ => rfl
    | ⟨1, _⟩ => rfl
    | ⟨2, _⟩ => rfl
  have hs1 : GatherDims.start gather_S100000x128_S100000x2x1_S100000x2x128_2_0_n_n_0_2_1128 j idx 1 = 0 := by
    unfold GatherDims.start
    exact dif_neg (show (1 : Fin 2) ∉ [(0 : Fin 2)] by decide)
  have ho0 : GatherDims.offCoord gather_S100000x128_S100000x2x1_S100000x2x128_2_0_n_n_0_2_1128 j 0 = 0 :=
    GatherDims.offCoord_eq_zero _ _ _ (fun h => ((GatherDims.mem_sKept _ _).mp h).1 (List.mem_singleton.mpr rfl))
  have ho1 : GatherDims.offCoord gather_S100000x128_S100000x2x1_S100000x2x128_2_0_n_n_0_2_1128 j 1 = (j 2).val := by
    unfold GatherDims.offCoord
    exact dif_pos (show (1 : Fin 2) ∈ GatherDims.sKept gather_S100000x128_S100000x2x1_S100000x2x128_2_0_n_n_0_2_1128 by decide)
  have hb : ∀ a, GatherDims.batchCoord gather_S100000x128_S100000x2x1_S100000x2x128_2_0_n_n_0_2_1128 j a = 0 := fun a =>
    GatherDims.batchCoord_eq_zero _ _ _ List.not_mem_nil
  unfold Host.gather
  refine congrArg x (funext fun a => Fin.ext ?_)
  show GatherDims.start gather_S100000x128_S100000x2x1_S100000x2x128_2_0_n_n_0_2_1128 j idx a
    + GatherDims.batchCoord gather_S100000x128_S100000x2x1_S100000x2x128_2_0_n_n_0_2_1128 j a
    + GatherDims.offCoord gather_S100000x128_S100000x2x1_S100000x2x128_2_0_n_n_0_2_1128 j a = _
  rw [hb]
  have h01 : a = (0 : Fin 2) ∨ a = (1 : Fin 2) := match a with | ⟨0, _⟩ => Or.inl rfl | ⟨1, _⟩ => Or.inr rfl
  rcases h01 with rfl | rfl
  · rw [hs0, ho0]; rfl
  · rw [hs1, ho1]
    exact Nat.zero_add _

variable (x0 : S100000x128.Idx → Elt F .f32) (x1 : S100000x2.Idx → BitVec 32) (hx : ∀ j, (x1 j).toNat < 100000)

include hx in
/-- With every index in range the reference's wrapped index is the index. -/
theorem wrapped (j : S100000x2.Idx) : val_main_call0_v4 (F := F) x1 j = x1 j := by
  rw [val_main_call0_v4_apply, val_main_call0_v1_apply, val_main_call0_v0_apply, val_main_call0_c_apply, word_not_neg _ (hx j)]
  rfl

include hx in
/-- With every index in range the reference's mask is set everywhere. -/
theorem mask_set (j : S100000x2.Idx) : val_main_call0_v12 (F := F) x1 j = 1#1 := by
  unfold val_main_call0_v12
  refine Host.reduce_andi_one _ _ _ _ _ rfl fun i => ?_
  rw [val_main_call0_v11_apply, val_main_call0_v7_apply, val_main_call0_v10_apply, val_main_call0_v6_apply, val_main_call0_c_2_apply,
    val_main_call0_v9_apply, val_main_call0_v8_apply, val_main_call0_c_1_apply, val_main_call0_v5_apply, wrapped x1 hx]
  exact word_in_range _ (hx _)

include hx in
/-- With every index in range, the gathered row pair `j 0`, member `j 1` is the table's row that index names. -/
theorem gathered (j : S100000x2x128.Idx) :
    val_main_v0 (F := F) x0 x1 j = row x0 (x1 (idx_main_call0_v14 j)) ⟨(j 2).val, (j 2).isLt⟩ := by
  have hv := hx (idx_main_call0_v14 j)
  rw [val_main_v0_apply, val_main_call0_v14_apply, mask_set x1 hx]
  refine (show Scalar.select 1#1 _ _ = val_main_call0_v13 (F := F) x0 x1 j from rfl).trans ?_
  unfold val_main_call0_v13
  have hi : ∀ a : Fin 3, ((fun a => match a with | ⟨0, _⟩ => ⟨(j 0).val, (j 0).isLt⟩ | ⟨1, _⟩ => ⟨(j 1).val, (j 1).isLt⟩ | ⟨2, _⟩ => ⟨0, Nat.one_pos⟩ : S100000x2x1.Idx) a).val
      = if a.val = 2 then 0 else (j a).val := fun a => match a with | ⟨0, _⟩ => rfl | ⟨1, _⟩ => rfl | ⟨2, _⟩ => rfl
  refine gather_apply x0 _ j _ hi ⟨_, Nat.mod_lt _ (by omega)⟩ ?_
  rw [val_main_call0_v5_apply, wrapped x1 hx]
  show (x1 (idx_main_call0_v14 j)).toNat % 100000 = min (x1 (idx_main_call0_v14 j)).toInt.toNat 99999
  rw [word_toInt _ hv, Nat.mod_eq_of_lt hv]
  omega

end

/-- Word `c` of line `b` of the index list is member `t` of pair `r` when the two stand at one place in row-major order. -/
theorem lines_apply (x1 : S100000x2.Idx → BitVec 32) (b : Fin 2500) (c : Fin 80) (j : S100000x2.Idx)
    (h : (j 0).val * 2 + (j 1).val = b.val * 80 + c.val) :
    lines x1 (ix2 (n0 := 2500) (n1 := 80) b c) = x1 j := by
  unfold lines Cert.Proof.Ideal.lst shapeCast
  refine congrArg x1 (Shape.reshapeEquiv_eq_of_rowMajor _ ?_)
  rw [Shape.rowMajor_val_two, Shape.rowMajor_val_two]
  exact h

/-- The pooled rows: half the sum of the two table rows a pair of indices names. -/
theorem pooled (x0 : S100000x128.Idx → Elt Ideal .f32) (x1 : S100000x2.Idx → BitVec 32) (hx : ∀ j, (x1 j).toNat < 100000)
    (i : S100000x128.Idx) :
    val_main_v3 (F := Ideal) x0 x1 i
      = mean (F := Ideal) (row x0 (x1 (idx_main_call0_v14 (idx_main_v1 i 0))) ⟨(i 1).val, (i 1).isLt⟩)
          (row x0 (x1 (idx_main_call0_v14 (idx_main_v1 i 1))) ⟨(i 1).val, (i 1).isLt⟩) := by
  rw [val_main_v3_apply, val_main_v2_apply, val_main_cst_0_apply, val_main_v1_apply, val_main_cst_apply, Fin.sum_univ_two,
    gathered x0 x1 hx, gathered x0 x1 hx]
  have hz : (FloatOps.ofBits .f32 0x00000000#32 : Ideal .f32) = (0 : EReal) := Ideal.ofBits_zero_f32
  rw [hz]
  refine (congrArg (fun s : EReal => ((FloatOps.ofBits .f32 0x3F000000#32 : Ideal .f32) : EReal) * s) (zero_add _)).trans ?_
  exact mul_comm (G := EReal) _ _

/-- THE REFERENCE'S RESULT: with every index in range, it is the specification's. -/
theorem result_eq (x0 : S100000x128.Idx → Elt Ideal .f32) (x1 : S100000x2.Idx → BitVec 32) (hx : ∀ j, (x1 j).toNat < 100000) :
    val_main_v4 (F := Ideal) x0 x1 = target x0 (lines x1) := by
  funext j
  have hj : (j 0).val < 200000 := (j 0).isLt
  unfold val_main_v4 target
  by_cases h : (j 0).val < 100000
  · rw [dif_pos h]
    exact concatenate_pair_apply_left 0 x0 _ _ j rfl _ (fun b => match b with | ⟨0, _⟩ => rfl | ⟨1, _⟩ => rfl)
  · rw [dif_neg h]
    have hr : (j 0).val - 100000 < 100000 := by omega
    have hs : S100000x128.size 0 = 100000 := rfl
    have hc : ∀ b : Fin 2, b ≠ 0 → (ix2 (n0 := 100000) (n1 := 128) ⟨(j 0).val - 100000, hr⟩ (j 1) b).val = (j b).val := by
      intro b hb
      obtain rfl : b = 1 := by omega
      rfl
    refine (concatenate_pair_apply_right 0 x0 (val_main_v3 (F := Ideal) x0 x1) _ j rfl rfl (ix2 (n0 := 100000) (n1 := 128) ⟨(j 0).val - 100000, hr⟩ (j 1))
      hc ((congrArg (_ + ·) hs).trans (Nat.sub_add_cancel (Nat.le_of_not_lt h)))).trans ?_
    rw [pooled x0 x1 hx]
    refine congrArg₂ (fun a b => mean (F := Ideal) (row x0 a _) (row x0 b _)) ?_ ?_
    · refine (lines_apply x1 _ _ _ ?_).symm
      show ((j 0).val - 100000) * 2 + 0 = ((j 0).val - 100000) / 40 * 80 + 2 * (((j 0).val - 100000) % 40)
      omega
    · refine (lines_apply x1 _ _ _ ?_).symm
      show ((j 0).val - 100000) * 2 + 1 = ((j 0).val - 100000) / 40 * 80 + (2 * (((j 0).val - 100000) % 40) + 1)
      omega

end Cert.Proof.Reference

end
-- ==== Proof.lean ====
/-
  The certificate: the kernel and its reading over the extended reals run to the end without fault, leave their
  arguments and every semaphore counter as they found them, and the latter ends with the reference's result. The kernel's
  run is `run_main` of IdealLaunch.lean, proved once for any floats: its result is the specification's `target`. It is
  stated of the program named KernelIdeal; no operation of the kernel is rewritten there, so the program named Kernel is
  the same one, and the run at the chip's floats is `run_main` at them. The reference's result is the specification's too
  (Reference.lean). What the precondition says of the indices, that each names a row of the table, is read off it here.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_in_rows
public import proofs.«01_k».proof.Proof.IdealLaunch
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- A conjunction of two truth words is set only when both are. -/
theorem both_set : ∀ a b : Bool, IntOp.andi (BitVec.ofBool a) (BitVec.ofBool b) = 1#1 → a = true ∧ b = true := by decide

/-- A word that is at least zero and less than 100000, read signed, is below 100000. -/
theorem word_below (v : BitVec 32) (h : IntOp.andi (IntOp.cmpi .sge v 0#32) (IntOp.cmpi .slt v 100000#32) = 1#1) : v.toNat < 100000 := by
  have hv := v.isLt
  obtain ⟨h0, h1⟩ := both_set _ _ h
  simp only [BitVec.sle_eq_decide, BitVec.slt_eq_decide, decide_eq_true_eq, BitVec.toInt_eq_toNat_cond, BitVec.toNat_ofNat,
    Nat.reducePow, Nat.reduceMod] at h0 h1
  omega

/-- The precondition: every index names a row of the table. -/
theorem index_below {F : FTy → Type} [FloatOps F] (x0 : Cert.Pre_idx_in_rows.S100000x128.Idx → Elt F .f32)
    (x1 : Cert.Pre_idx_in_rows.S100000x2.Idx → BitVec 32)
    (h : Cert.Pre_idx_in_rows.fn (F := F) x0 x1 = fun _ => 1#1) (j : Cert.Pre_idx_in_rows.S100000x2.Idx) : (x1 j).toNat < 100000 := by
  have e := congrFun h j
  simp only [Cert.Pre_idx_in_rows.fn, andi, cmpi, broadcastInDim, constantI] at e
  exact word_below _ e

section
variable {F : FTy → Type} [FloatOps F]

/-- The kernel and its idealization define the same functions, at any floats. -/
theorem same_defs : Cert.Kernel.defs (F := F) = Cert.KernelIdeal.defs (F := F) := rfl

/-- The kernel and its idealization start the same threads, at any floats. -/
theorem same_threads : Cert.Kernel.threads (F := F) = Cert.KernelIdeal.threads (F := F) := rfl

end

/-- The kernel at the chip's floats runs, keeps its arguments and returns every counter to zero. -/
theorem frame_kernel : Cert.quiescent_Kernel := by
  intro m g hpre
  rw [same_defs, same_threads]
  exact (θ_run Cert.KernelIdeal.defs _ _).mono (fun _ h => ⟨fun c => (h.1 c).2, h.2⟩)
    (Cert.Proof.Ideal.run_main (F := Bits) m g fun d j => index_below _ _ (hpre d) j)

/-- The kernel over the extended reals runs, keeps its arguments and returns every counter to zero. -/
theorem frame_ideal : Cert.quiescent_KernelIdeal := by
  intro m g hpre
  exact (θ_run Cert.KernelIdeal.defs _ _).mono (fun _ h => ⟨fun c => (h.1 c).2, h.2⟩)
    (Cert.Proof.Ideal.run_main (F := Ideal) m g fun d j => index_below _ _ (hpre d) j)

/-- The reference runs and keeps its arguments; it has no semaphore. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The same, under the precondition. -/
theorem frame_reference_pre : Cert.quiescent_ReferenceIdeal_pre_idx_in_rows := fun m g _ => frame_reference m g trivial

/-- From equal arguments with every index in range, the kernel over the extended reals and the reference end with equal
    results: the specification's, of the kernel's arguments. -/
theorem equal_results : Cert.algebraic_KernelIdeal_ReferenceIdeal := by
  intro m g m' g' hpre hargs
  have hok : Cert.Proof.Ideal.PreOK m := fun d j => index_below _ _ (hpre d) j
  refine ⟨fun c => Cert.Proof.Ideal.out m c, ?_, ?_⟩
  · exact (θ_run Cert.KernelIdeal.defs _ _).mono (fun _ h c => h.1 c) (Cert.Proof.Ideal.run_main (F := Ideal) m g hok)
  · refine (θ_run Cert.ReferenceIdeal.defs _ _).mono (fun r h c => ⟨?_, (h c).2⟩) (Cert.ReferenceIdeal.Value.run (F := Ideal) m' g')
    refine (h c).1.trans ((Cert.ReferenceIdeal.Read.val_main_v4_eq _ _).trans ?_)
    rw [(hargs c).1, (hargs c).2]
    exact Reference.result_eq _ _ fun j => hok c j

/-- Everything claimed: the frames of the kernel, of its idealization and of the reference, and the equal results. -/
theorem claim : Cert.Claim := ⟨Cert.Kernel.Gen.facts, Cert.KernelIdeal.Gen.facts, Cert.ReferenceIdeal.Gen.facts, Cert.Pre_idx_in_rows.Gen.facts,
  frame_kernel, frame_ideal, frame_reference, frame_reference_pre, trivial, equal_results⟩

end Cert.Proof

end
